-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffp (m : (ℓ : Loc Cert.Ffp.nD Cert.Ffp.τ Cert.Ffp.sig) → Buf (Elt Bits) ℓ) : Prop :=
  True

def Pre_FfpIdeal (m : (ℓ : Loc Cert.FfpIdeal.nD Cert.FfpIdeal.τ Cert.FfpIdeal.sig) → Buf (Elt Ideal) ℓ) : Prop :=
  True

def Pre_FfpRefIdeal (m : (ℓ : Loc Cert.FfpRefIdeal.nD Cert.FfpRefIdeal.τ Cert.FfpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6)
      ∧ r.2.mem ((c.tc : Thread Cert.Sgu.nD Cert.Sgu.τ).loc Cert.Sgu.main_arg7) = m ((c.tc : Thread Cert.Sgu.nD Cert.Sgu.τ).loc Cert.Sgu.main_arg7)
      ∧ r.2.mem ((c.tc : Thread Cert.Sgu.nD Cert.Sgu.τ).loc Cert.Sgu.main_arg8) = m ((c.tc : Thread Cert.Sgu.nD Cert.Sgu.τ).loc Cert.Sgu.main_arg8))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
      ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
      ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6)
      ∧ r.2.mem ((c.tc : Thread Cert.SguRefIdeal.nD Cert.SguRefIdeal.τ).loc Cert.SguRefIdeal.main_arg7) = m ((c.tc : Thread Cert.SguRefIdeal.nD Cert.SguRefIdeal.τ).loc Cert.SguRefIdeal.main_arg7)
      ∧ r.2.mem ((c.tc : Thread Cert.SguRefIdeal.nD Cert.SguRefIdeal.τ).loc Cert.SguRefIdeal.main_arg8) = m ((c.tc : Thread Cert.SguRefIdeal.nD Cert.SguRefIdeal.τ).loc Cert.SguRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_Ffp [hFfp : Cert.Ffp.Facts] : Prop :=
  ∀ (m : (ℓ : Loc Cert.Ffp.nD Cert.Ffp.τ Cert.Ffp.sig) → Buf (Elt Bits) ℓ) (g : Dev Cert.Ffp.nD → PrngReg), Pre_Ffp m →
    θ_run (Cert.Ffp.defs (F := Bits)) (onTc (τ := Cert.Ffp.τ) (Cert.Ffp.main (F := Bits))) ⟨m, fun _ => 0, g⟩ (fun r => (∀ c : Dev Cert.Ffp.nD,
      r.2.mem ((c.tc : Thread Cert.Ffp.nD Cert.Ffp.τ).loc Cert.Ffp.main_arg0) = m ((c.tc : Thread Cert.Ffp.nD Cert.Ffp.τ).loc Cert.Ffp.main_arg0)
      ∧ r.2.mem ((c.tc : Thread Cert.Ffp.nD Cert.Ffp.τ).loc Cert.Ffp.main_arg1) = m ((c.tc : Thread Cert.Ffp.nD Cert.Ffp.τ).loc Cert.Ffp.main_arg1)
      ∧ r.2.mem ((c.tc : Thread Cert.Ffp.nD Cert.Ffp.τ).loc Cert.Ffp.main_arg2) = m ((c.tc : Thread Cert.Ffp.nD Cert.Ffp.τ).loc Cert.Ffp.main_arg2)
      ∧ r.2.mem ((c.tc : Thread Cert.Ffp.nD Cert.Ffp.τ).loc Cert.Ffp.main_arg3) = m ((c.tc : Thread Cert.Ffp.nD Cert.Ffp.τ).loc Cert.Ffp.main_arg3)
      ∧ r.2.mem ((c.tc : Thread Cert.Ffp.nD Cert.Ffp.τ).loc Cert.Ffp.main_arg4) = m ((c.tc : Thread Cert.Ffp.nD Cert.Ffp.τ).loc Cert.Ffp.main_arg4)
      ∧ r.2.mem ((c.tc : Thread Cert.Ffp.nD Cert.Ffp.τ).loc Cert.Ffp.main_arg5) = m ((c.tc : Thread Cert.Ffp.nD Cert.Ffp.τ).loc Cert.Ffp.main_arg5)
      ∧ r.2.mem ((c.tc : Thread Cert.Ffp.nD Cert.Ffp.τ).loc Cert.Ffp.main_arg6) = m ((c.tc : Thread Cert.Ffp.nD Cert.Ffp.τ).loc Cert.Ffp.main_arg6)
      ∧ r.2.mem ((c.tc : Thread Cert.Ffp.nD Cert.Ffp.τ).loc Cert.Ffp.main_arg7) = m ((c.tc : Thread Cert.Ffp.nD Cert.Ffp.τ).loc Cert.Ffp.main_arg7))
      ∧ r.2.sem = fun _ => 0)

def quiescent_FfpIdeal [hFfpIdeal : Cert.FfpIdeal.Facts] : Prop :=
  ∀ (m : (ℓ : Loc Cert.FfpIdeal.nD Cert.FfpIdeal.τ Cert.FfpIdeal.sig) → Buf (Elt Ideal) ℓ) (g : Dev Cert.FfpIdeal.nD → PrngReg), Pre_FfpIdeal m →
    θ_run (Cert.FfpIdeal.defs (F := Ideal)) (onTc (τ := Cert.FfpIdeal.τ) (Cert.FfpIdeal.main (F := Ideal))) ⟨m, fun _ => 0, g⟩ (fun r => (∀ c : Dev Cert.FfpIdeal.nD,
      r.2.mem ((c.tc : Thread Cert.FfpIdeal.nD Cert.FfpIdeal.τ).loc Cert.FfpIdeal.main_arg0) = m ((c.tc : Thread Cert.FfpIdeal.nD Cert.FfpIdeal.τ).loc Cert.FfpIdeal.main_arg0)
      ∧ r.2.mem ((c.tc : Thread Cert.FfpIdeal.nD Cert.FfpIdeal.τ).loc Cert.FfpIdeal.main_arg1) = m ((c.tc : Thread Cert.FfpIdeal.nD Cert.FfpIdeal.τ).loc Cert.FfpIdeal.main_arg1)
      ∧ r.2.mem ((c.tc : Thread Cert.FfpIdeal.nD Cert.FfpIdeal.τ).loc Cert.FfpIdeal.main_arg2) = m ((c.tc : Thread Cert.FfpIdeal.nD Cert.FfpIdeal.τ).loc Cert.FfpIdeal.main_arg2)
      ∧ r.2.mem ((c.tc : Thread Cert.FfpIdeal.nD Cert.FfpIdeal.τ).loc Cert.FfpIdeal.main_arg3) = m ((c.tc : Thread Cert.FfpIdeal.nD Cert.FfpIdeal.τ).loc Cert.FfpIdeal.main_arg3)
      ∧ r.2.mem ((c.tc : Thread Cert.FfpIdeal.nD Cert.FfpIdeal.τ).loc Cert.FfpIdeal.main_arg4) = m ((c.tc : Thread Cert.FfpIdeal.nD Cert.FfpIdeal.τ).loc Cert.FfpIdeal.main_arg4)
      ∧ r.2.mem ((c.tc : Thread Cert.FfpIdeal.nD Cert.FfpIdeal.τ).loc Cert.FfpIdeal.main_arg5) = m ((c.tc : Thread Cert.FfpIdeal.nD Cert.FfpIdeal.τ).loc Cert.FfpIdeal.main_arg5)
      ∧ r.2.mem ((c.tc : Thread Cert.FfpIdeal.nD Cert.FfpIdeal.τ).loc Cert.FfpIdeal.main_arg6) = m ((c.tc : Thread Cert.FfpIdeal.nD Cert.FfpIdeal.τ).loc Cert.FfpIdeal.main_arg6)
      ∧ r.2.mem ((c.tc : Thread Cert.FfpIdeal.nD Cert.FfpIdeal.τ).loc Cert.FfpIdeal.main_arg7) = m ((c.tc : Thread Cert.FfpIdeal.nD Cert.FfpIdeal.τ).loc Cert.FfpIdeal.main_arg7))
      ∧ r.2.sem = fun _ => 0)

def quiescent_FfpRefIdeal [hFfpRefIdeal : Cert.FfpRefIdeal.Facts] : Prop :=
  ∀ (m : (ℓ : Loc Cert.FfpRefIdeal.nD Cert.FfpRefIdeal.τ Cert.FfpRefIdeal.sig) → Buf (Elt Ideal) ℓ) (g : Dev Cert.FfpRefIdeal.nD → PrngReg), Pre_FfpRefIdeal m →
    θ_run (Cert.FfpRefIdeal.defs (F := Ideal)) (onTc (τ := Cert.FfpRefIdeal.τ) (Cert.FfpRefIdeal.main (F := Ideal))) ⟨m, fun _ => 0, g⟩ (fun r => (∀ c : Dev Cert.FfpRefIdeal.nD,
      r.2.mem ((c.tc : Thread Cert.FfpRefIdeal.nD Cert.FfpRefIdeal.τ).loc Cert.FfpRefIdeal.main_arg0) = m ((c.tc : Thread Cert.FfpRefIdeal.nD Cert.FfpRefIdeal.τ).loc Cert.FfpRefIdeal.main_arg0)
      ∧ r.2.mem ((c.tc : Thread Cert.FfpRefIdeal.nD Cert.FfpRefIdeal.τ).loc Cert.FfpRefIdeal.main_arg1) = m ((c.tc : Thread Cert.FfpRefIdeal.nD Cert.FfpRefIdeal.τ).loc Cert.FfpRefIdeal.main_arg1)
      ∧ r.2.mem ((c.tc : Thread Cert.FfpRefIdeal.nD Cert.FfpRefIdeal.τ).loc Cert.FfpRefIdeal.main_arg2) = m ((c.tc : Thread Cert.FfpRefIdeal.nD Cert.FfpRefIdeal.τ).loc Cert.FfpRefIdeal.main_arg2)
      ∧ r.2.mem ((c.tc : Thread Cert.FfpRefIdeal.nD Cert.FfpRefIdeal.τ).loc Cert.FfpRefIdeal.main_arg3) = m ((c.tc : Thread Cert.FfpRefIdeal.nD Cert.FfpRefIdeal.τ).loc Cert.FfpRefIdeal.main_arg3)
      ∧ r.2.mem ((c.tc : Thread Cert.FfpRefIdeal.nD Cert.FfpRefIdeal.τ).loc Cert.FfpRefIdeal.main_arg4) = m ((c.tc : Thread Cert.FfpRefIdeal.nD Cert.FfpRefIdeal.τ).loc Cert.FfpRefIdeal.main_arg4)
      ∧ r.2.mem ((c.tc : Thread Cert.FfpRefIdeal.nD Cert.FfpRefIdeal.τ).loc Cert.FfpRefIdeal.main_arg5) = m ((c.tc : Thread Cert.FfpRefIdeal.nD Cert.FfpRefIdeal.τ).loc Cert.FfpRefIdeal.main_arg5)
      ∧ r.2.mem ((c.tc : Thread Cert.FfpRefIdeal.nD Cert.FfpRefIdeal.τ).loc Cert.FfpRefIdeal.main_arg6) = m ((c.tc : Thread Cert.FfpRefIdeal.nD Cert.FfpRefIdeal.τ).loc Cert.FfpRefIdeal.main_arg6)
      ∧ r.2.mem ((c.tc : Thread Cert.FfpRefIdeal.nD Cert.FfpRefIdeal.τ).loc Cert.FfpRefIdeal.main_arg7) = m ((c.tc : Thread Cert.FfpRefIdeal.nD Cert.FfpRefIdeal.τ).loc Cert.FfpRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11)
      ∧ r.2.mem ((c.tc : Thread Cert.Proj.nD Cert.Proj.τ).loc Cert.Proj.main_arg12) = m ((c.tc : Thread Cert.Proj.nD Cert.Proj.τ).loc Cert.Proj.main_arg12)
      ∧ r.2.mem ((c.tc : Thread Cert.Proj.nD Cert.Proj.τ).loc Cert.Proj.main_arg13) = m ((c.tc : Thread Cert.Proj.nD Cert.Proj.τ).loc Cert.Proj.main_arg13))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
      ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
      ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10)
      ∧ r.2.mem ((c.tc : Thread Cert.ProjRefIdeal.nD Cert.ProjRefIdeal.τ).loc Cert.ProjRefIdeal.main_arg11) = m ((c.tc : Thread Cert.ProjRefIdeal.nD Cert.ProjRefIdeal.τ).loc Cert.ProjRefIdeal.main_arg11)
      ∧ r.2.mem ((c.tc : Thread Cert.ProjRefIdeal.nD Cert.ProjRefIdeal.τ).loc Cert.ProjRefIdeal.main_arg12) = m ((c.tc : Thread Cert.ProjRefIdeal.nD Cert.ProjRefIdeal.τ).loc Cert.ProjRefIdeal.main_arg12)
      ∧ r.2.mem ((c.tc : Thread Cert.ProjRefIdeal.nD Cert.ProjRefIdeal.τ).loc Cert.ProjRefIdeal.main_arg13) = m ((c.tc : Thread Cert.ProjRefIdeal.nD Cert.ProjRefIdeal.τ).loc Cert.ProjRefIdeal.main_arg13))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)
      ∧ m' ((c.tc : Thread Cert.SguRefIdeal.nD Cert.SguRefIdeal.τ).loc Cert.SguRefIdeal.main_arg7) = m ((c.tc : Thread Cert.SguIdeal.nD Cert.SguIdeal.τ).loc Cert.SguIdeal.main_arg7)
      ∧ m' ((c.tc : Thread Cert.SguRefIdeal.nD Cert.SguRefIdeal.τ).loc Cert.SguRefIdeal.main_arg8) = m ((c.tc : Thread Cert.SguIdeal.nD Cert.SguIdeal.τ).loc Cert.SguIdeal.main_arg8)) →
    ∃ (v0 : (c : Dev Cert.SguIdeal.nD) → Buf (Elt Ideal) ((c.tc : Thread Cert.SguIdeal.nD Cert.SguIdeal.τ).loc Cert.SguIdeal.main_v20)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v20) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6)
          ∧ r.2.mem ((c.tc : Thread Cert.SguIdeal.nD Cert.SguIdeal.τ).loc Cert.SguIdeal.main_arg7) = m ((c.tc : Thread Cert.SguIdeal.nD Cert.SguIdeal.τ).loc Cert.SguIdeal.main_arg7)
          ∧ r.2.mem ((c.tc : Thread Cert.SguIdeal.nD Cert.SguIdeal.τ).loc Cert.SguIdeal.main_arg8) = m ((c.tc : Thread Cert.SguIdeal.nD Cert.SguIdeal.τ).loc Cert.SguIdeal.main_arg8))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v83) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6)
          ∧ r.2.mem ((c.tc : Thread Cert.SguRefIdeal.nD Cert.SguRefIdeal.τ).loc Cert.SguRefIdeal.main_arg7) = m' ((c.tc : Thread Cert.SguRefIdeal.nD Cert.SguRefIdeal.τ).loc Cert.SguRefIdeal.main_arg7)
          ∧ r.2.mem ((c.tc : Thread Cert.SguRefIdeal.nD Cert.SguRefIdeal.τ).loc Cert.SguRefIdeal.main_arg8) = m' ((c.tc : Thread Cert.SguRefIdeal.nD Cert.SguRefIdeal.τ).loc Cert.SguRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v19)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v19) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v127) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_Ffp_FfpIdeal : Prop :=
  True

def algebraic_FfpIdeal_FfpRefIdeal [hFfpIdeal : Cert.FfpIdeal.Facts] [hFfpRefIdeal : Cert.FfpRefIdeal.Facts] : Prop :=
  ∀ (m : (ℓ : Loc Cert.FfpIdeal.nD Cert.FfpIdeal.τ Cert.FfpIdeal.sig) → Buf (Elt Ideal) ℓ) (g : Dev Cert.FfpIdeal.nD → PrngReg)
    (m' : (ℓ : Loc Cert.FfpRefIdeal.nD Cert.FfpRefIdeal.τ Cert.FfpRefIdeal.sig) → Buf (Elt Ideal) ℓ) (g' : Dev Cert.FfpRefIdeal.nD → PrngReg), Pre_FfpIdeal m →
    (∀ c : Dev Cert.FfpIdeal.nD,
      m' ((c.tc : Thread Cert.FfpRefIdeal.nD Cert.FfpRefIdeal.τ).loc Cert.FfpRefIdeal.main_arg0) = m ((c.tc : Thread Cert.FfpIdeal.nD Cert.FfpIdeal.τ).loc Cert.FfpIdeal.main_arg0)
      ∧ m' ((c.tc : Thread Cert.FfpRefIdeal.nD Cert.FfpRefIdeal.τ).loc Cert.FfpRefIdeal.main_arg1) = m ((c.tc : Thread Cert.FfpIdeal.nD Cert.FfpIdeal.τ).loc Cert.FfpIdeal.main_arg1)
      ∧ m' ((c.tc : Thread Cert.FfpRefIdeal.nD Cert.FfpRefIdeal.τ).loc Cert.FfpRefIdeal.main_arg2) = m ((c.tc : Thread Cert.FfpIdeal.nD Cert.FfpIdeal.τ).loc Cert.FfpIdeal.main_arg2)
      ∧ m' ((c.tc : Thread Cert.FfpRefIdeal.nD Cert.FfpRefIdeal.τ).loc Cert.FfpRefIdeal.main_arg3) = m ((c.tc : Thread Cert.FfpIdeal.nD Cert.FfpIdeal.τ).loc Cert.FfpIdeal.main_arg3)
      ∧ m' ((c.tc : Thread Cert.FfpRefIdeal.nD Cert.FfpRefIdeal.τ).loc Cert.FfpRefIdeal.main_arg4) = m ((c.tc : Thread Cert.FfpIdeal.nD Cert.FfpIdeal.τ).loc Cert.FfpIdeal.main_arg4)
      ∧ m' ((c.tc : Thread Cert.FfpRefIdeal.nD Cert.FfpRefIdeal.τ).loc Cert.FfpRefIdeal.main_arg5) = m ((c.tc : Thread Cert.FfpIdeal.nD Cert.FfpIdeal.τ).loc Cert.FfpIdeal.main_arg5)
      ∧ m' ((c.tc : Thread Cert.FfpRefIdeal.nD Cert.FfpRefIdeal.τ).loc Cert.FfpRefIdeal.main_arg6) = m ((c.tc : Thread Cert.FfpIdeal.nD Cert.FfpIdeal.τ).loc Cert.FfpIdeal.main_arg6)
      ∧ m' ((c.tc : Thread Cert.FfpRefIdeal.nD Cert.FfpRefIdeal.τ).loc Cert.FfpRefIdeal.main_arg7) = m ((c.tc : Thread Cert.FfpIdeal.nD Cert.FfpIdeal.τ).loc Cert.FfpIdeal.main_arg7)) →
    ∃ (v0 : (c : Dev Cert.FfpIdeal.nD) → Buf (Elt Ideal) ((c.tc : Thread Cert.FfpIdeal.nD Cert.FfpIdeal.τ).loc Cert.FfpIdeal.main_v20)),
      θ_run (Cert.FfpIdeal.defs (F := Ideal)) (onTc (τ := Cert.FfpIdeal.τ) (Cert.FfpIdeal.main (F := Ideal))) ⟨m, fun _ => 0, g⟩ (fun r => ∀ c : Dev Cert.FfpIdeal.nD,
          r.2.mem ((c.tc : Thread Cert.FfpIdeal.nD Cert.FfpIdeal.τ).loc Cert.FfpIdeal.main_v20) = v0 c
          ∧ r.2.mem ((c.tc : Thread Cert.FfpIdeal.nD Cert.FfpIdeal.τ).loc Cert.FfpIdeal.main_arg0) = m ((c.tc : Thread Cert.FfpIdeal.nD Cert.FfpIdeal.τ).loc Cert.FfpIdeal.main_arg0)
          ∧ r.2.mem ((c.tc : Thread Cert.FfpIdeal.nD Cert.FfpIdeal.τ).loc Cert.FfpIdeal.main_arg1) = m ((c.tc : Thread Cert.FfpIdeal.nD Cert.FfpIdeal.τ).loc Cert.FfpIdeal.main_arg1)
          ∧ r.2.mem ((c.tc : Thread Cert.FfpIdeal.nD Cert.FfpIdeal.τ).loc Cert.FfpIdeal.main_arg2) = m ((c.tc : Thread Cert.FfpIdeal.nD Cert.FfpIdeal.τ).loc Cert.FfpIdeal.main_arg2)
          ∧ r.2.mem ((c.tc : Thread Cert.FfpIdeal.nD Cert.FfpIdeal.τ).loc Cert.FfpIdeal.main_arg3) = m ((c.tc : Thread Cert.FfpIdeal.nD Cert.FfpIdeal.τ).loc Cert.FfpIdeal.main_arg3)
          ∧ r.2.mem ((c.tc : Thread Cert.FfpIdeal.nD Cert.FfpIdeal.τ).loc Cert.FfpIdeal.main_arg4) = m ((c.tc : Thread Cert.FfpIdeal.nD Cert.FfpIdeal.τ).loc Cert.FfpIdeal.main_arg4)
          ∧ r.2.mem ((c.tc : Thread Cert.FfpIdeal.nD Cert.FfpIdeal.τ).loc Cert.FfpIdeal.main_arg5) = m ((c.tc : Thread Cert.FfpIdeal.nD Cert.FfpIdeal.τ).loc Cert.FfpIdeal.main_arg5)
          ∧ r.2.mem ((c.tc : Thread Cert.FfpIdeal.nD Cert.FfpIdeal.τ).loc Cert.FfpIdeal.main_arg6) = m ((c.tc : Thread Cert.FfpIdeal.nD Cert.FfpIdeal.τ).loc Cert.FfpIdeal.main_arg6)
          ∧ r.2.mem ((c.tc : Thread Cert.FfpIdeal.nD Cert.FfpIdeal.τ).loc Cert.FfpIdeal.main_arg7) = m ((c.tc : Thread Cert.FfpIdeal.nD Cert.FfpIdeal.τ).loc Cert.FfpIdeal.main_arg7))
      ∧ θ_run (Cert.FfpRefIdeal.defs (F := Ideal)) (onTc (τ := Cert.FfpRefIdeal.τ) (Cert.FfpRefIdeal.main (F := Ideal))) ⟨m', fun _ => 0, g'⟩ (fun r => ∀ c : Dev Cert.FfpRefIdeal.nD,
          r.2.mem ((c.tc : Thread Cert.FfpRefIdeal.nD Cert.FfpRefIdeal.τ).loc Cert.FfpRefIdeal.main_v82) = v0 c
          ∧ r.2.mem ((c.tc : Thread Cert.FfpRefIdeal.nD Cert.FfpRefIdeal.τ).loc Cert.FfpRefIdeal.main_arg0) = m' ((c.tc : Thread Cert.FfpRefIdeal.nD Cert.FfpRefIdeal.τ).loc Cert.FfpRefIdeal.main_arg0)
          ∧ r.2.mem ((c.tc : Thread Cert.FfpRefIdeal.nD Cert.FfpRefIdeal.τ).loc Cert.FfpRefIdeal.main_arg1) = m' ((c.tc : Thread Cert.FfpRefIdeal.nD Cert.FfpRefIdeal.τ).loc Cert.FfpRefIdeal.main_arg1)
          ∧ r.2.mem ((c.tc : Thread Cert.FfpRefIdeal.nD Cert.FfpRefIdeal.τ).loc Cert.FfpRefIdeal.main_arg2) = m' ((c.tc : Thread Cert.FfpRefIdeal.nD Cert.FfpRefIdeal.τ).loc Cert.FfpRefIdeal.main_arg2)
          ∧ r.2.mem ((c.tc : Thread Cert.FfpRefIdeal.nD Cert.FfpRefIdeal.τ).loc Cert.FfpRefIdeal.main_arg3) = m' ((c.tc : Thread Cert.FfpRefIdeal.nD Cert.FfpRefIdeal.τ).loc Cert.FfpRefIdeal.main_arg3)
          ∧ r.2.mem ((c.tc : Thread Cert.FfpRefIdeal.nD Cert.FfpRefIdeal.τ).loc Cert.FfpRefIdeal.main_arg4) = m' ((c.tc : Thread Cert.FfpRefIdeal.nD Cert.FfpRefIdeal.τ).loc Cert.FfpRefIdeal.main_arg4)
          ∧ r.2.mem ((c.tc : Thread Cert.FfpRefIdeal.nD Cert.FfpRefIdeal.τ).loc Cert.FfpRefIdeal.main_arg5) = m' ((c.tc : Thread Cert.FfpRefIdeal.nD Cert.FfpRefIdeal.τ).loc Cert.FfpRefIdeal.main_arg5)
          ∧ r.2.mem ((c.tc : Thread Cert.FfpRefIdeal.nD Cert.FfpRefIdeal.τ).loc Cert.FfpRefIdeal.main_arg6) = m' ((c.tc : Thread Cert.FfpRefIdeal.nD Cert.FfpRefIdeal.τ).loc Cert.FfpRefIdeal.main_arg6)
          ∧ r.2.mem ((c.tc : Thread Cert.FfpRefIdeal.nD Cert.FfpRefIdeal.τ).loc Cert.FfpRefIdeal.main_arg7) = m' ((c.tc : Thread Cert.FfpRefIdeal.nD Cert.FfpRefIdeal.τ).loc Cert.FfpRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v19) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)
      ∧ m' ((c.tc : Thread Cert.ProjRefIdeal.nD Cert.ProjRefIdeal.τ).loc Cert.ProjRefIdeal.main_arg11) = m ((c.tc : Thread Cert.ProjIdeal.nD Cert.ProjIdeal.τ).loc Cert.ProjIdeal.main_arg11)
      ∧ m' ((c.tc : Thread Cert.ProjRefIdeal.nD Cert.ProjRefIdeal.τ).loc Cert.ProjRefIdeal.main_arg12) = m ((c.tc : Thread Cert.ProjIdeal.nD Cert.ProjIdeal.τ).loc Cert.ProjIdeal.main_arg12)
      ∧ m' ((c.tc : Thread Cert.ProjRefIdeal.nD Cert.ProjRefIdeal.τ).loc Cert.ProjRefIdeal.main_arg13) = m ((c.tc : Thread Cert.ProjIdeal.nD Cert.ProjIdeal.τ).loc Cert.ProjIdeal.main_arg13)) →
    ∃ (v0 : (c : Dev Cert.ProjIdeal.nD) → Buf (Elt Ideal) ((c.tc : Thread Cert.ProjIdeal.nD Cert.ProjIdeal.τ).loc Cert.ProjIdeal.main_v33_0)) (v1 : (c : Dev Cert.ProjIdeal.nD) → Buf (Elt Ideal) ((c.tc : Thread Cert.ProjIdeal.nD Cert.ProjIdeal.τ).loc Cert.ProjIdeal.main_v33_1)) (v2 : (c : Dev Cert.ProjIdeal.nD) → Buf (Elt Ideal) ((c.tc : Thread Cert.ProjIdeal.nD Cert.ProjIdeal.τ).loc Cert.ProjIdeal.main_v33_2)) (v3 : (c : Dev Cert.ProjIdeal.nD) → Buf (Elt Ideal) ((c.tc : Thread Cert.ProjIdeal.nD Cert.ProjIdeal.τ).loc Cert.ProjIdeal.main_v33_3)) (v4 : (c : Dev Cert.ProjIdeal.nD) → Buf (Elt Ideal) ((c.tc : Thread Cert.ProjIdeal.nD Cert.ProjIdeal.τ).loc Cert.ProjIdeal.main_v33_4)) (v5 : (c : Dev Cert.ProjIdeal.nD) → Buf (Elt Ideal) ((c.tc : Thread Cert.ProjIdeal.nD Cert.ProjIdeal.τ).loc Cert.ProjIdeal.main_v33_5)) (v6 : (c : Dev Cert.ProjIdeal.nD) → Buf (Elt Ideal) ((c.tc : Thread Cert.ProjIdeal.nD Cert.ProjIdeal.τ).loc Cert.ProjIdeal.main_v33_6)) (v7 : (c : Dev Cert.ProjIdeal.nD) → Buf (Elt Ideal) ((c.tc : Thread Cert.ProjIdeal.nD Cert.ProjIdeal.τ).loc Cert.ProjIdeal.main_v33_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v33_0) = v0 c
          ∧ r.2.mem ((c.tc : Thread Cert.ProjIdeal.nD Cert.ProjIdeal.τ).loc Cert.ProjIdeal.main_v33_1) = v1 c
          ∧ r.2.mem ((c.tc : Thread Cert.ProjIdeal.nD Cert.ProjIdeal.τ).loc Cert.ProjIdeal.main_v33_2) = v2 c
          ∧ r.2.mem ((c.tc : Thread Cert.ProjIdeal.nD Cert.ProjIdeal.τ).loc Cert.ProjIdeal.main_v33_3) = v3 c
          ∧ r.2.mem ((c.tc : Thread Cert.ProjIdeal.nD Cert.ProjIdeal.τ).loc Cert.ProjIdeal.main_v33_4) = v4 c
          ∧ r.2.mem ((c.tc : Thread Cert.ProjIdeal.nD Cert.ProjIdeal.τ).loc Cert.ProjIdeal.main_v33_5) = v5 c
          ∧ r.2.mem ((c.tc : Thread Cert.ProjIdeal.nD Cert.ProjIdeal.τ).loc Cert.ProjIdeal.main_v33_6) = v6 c
          ∧ r.2.mem ((c.tc : Thread Cert.ProjIdeal.nD Cert.ProjIdeal.τ).loc Cert.ProjIdeal.main_v33_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
          ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11)
          ∧ r.2.mem ((c.tc : Thread Cert.ProjIdeal.nD Cert.ProjIdeal.τ).loc Cert.ProjIdeal.main_arg12) = m ((c.tc : Thread Cert.ProjIdeal.nD Cert.ProjIdeal.τ).loc Cert.ProjIdeal.main_arg12)
          ∧ r.2.mem ((c.tc : Thread Cert.ProjIdeal.nD Cert.ProjIdeal.τ).loc Cert.ProjIdeal.main_arg13) = m ((c.tc : Thread Cert.ProjIdeal.nD Cert.ProjIdeal.τ).loc Cert.ProjIdeal.main_arg13))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v207) = v0 c
          ∧ r.2.mem ((c.tc : Thread Cert.ProjRefIdeal.nD Cert.ProjRefIdeal.τ).loc Cert.ProjRefIdeal.main_v210) = v1 c
          ∧ r.2.mem ((c.tc : Thread Cert.ProjRefIdeal.nD Cert.ProjRefIdeal.τ).loc Cert.ProjRefIdeal.main_v213) = v2 c
          ∧ r.2.mem ((c.tc : Thread Cert.ProjRefIdeal.nD Cert.ProjRefIdeal.τ).loc Cert.ProjRefIdeal.main_v216) = v3 c
          ∧ r.2.mem ((c.tc : Thread Cert.ProjRefIdeal.nD Cert.ProjRefIdeal.τ).loc Cert.ProjRefIdeal.main_v219) = v4 c
          ∧ r.2.mem ((c.tc : Thread Cert.ProjRefIdeal.nD Cert.ProjRefIdeal.τ).loc Cert.ProjRefIdeal.main_v222) = v5 c
          ∧ r.2.mem ((c.tc : Thread Cert.ProjRefIdeal.nD Cert.ProjRefIdeal.τ).loc Cert.ProjRefIdeal.main_v225) = v6 c
          ∧ r.2.mem ((c.tc : Thread Cert.ProjRefIdeal.nD Cert.ProjRefIdeal.τ).loc Cert.ProjRefIdeal.main_v132) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10)
          ∧ r.2.mem ((c.tc : Thread Cert.ProjRefIdeal.nD Cert.ProjRefIdeal.τ).loc Cert.ProjRefIdeal.main_arg11) = m' ((c.tc : Thread Cert.ProjRefIdeal.nD Cert.ProjRefIdeal.τ).loc Cert.ProjRefIdeal.main_arg11)
          ∧ r.2.mem ((c.tc : Thread Cert.ProjRefIdeal.nD Cert.ProjRefIdeal.τ).loc Cert.ProjRefIdeal.main_arg12) = m' ((c.tc : Thread Cert.ProjRefIdeal.nD Cert.ProjRefIdeal.τ).loc Cert.ProjRefIdeal.main_arg12)
          ∧ r.2.mem ((c.tc : Thread Cert.ProjRefIdeal.nD Cert.ProjRefIdeal.τ).loc Cert.ProjRefIdeal.main_arg13) = m' ((c.tc : Thread Cert.ProjRefIdeal.nD Cert.ProjRefIdeal.τ).loc Cert.ProjRefIdeal.main_arg13))

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hFfp : Cert.Ffp.Facts) (hFfpIdeal : Cert.FfpIdeal.Facts) (hFfpRefIdeal : Cert.FfpRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts),
    quiescent_Sgu (hSgu := hSgu)
    ∧ quiescent_SguIdeal (hSguIdeal := hSguIdeal)
    ∧ quiescent_SguRefIdeal (hSguRefIdeal := hSguRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ffp (hFfp := hFfp)
    ∧ quiescent_FfpIdeal (hFfpIdeal := hFfpIdeal)
    ∧ quiescent_FfpRefIdeal (hFfpRefIdeal := hFfpRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ preserves_Sgu_SguIdeal
    ∧ algebraic_SguIdeal_SguRefIdeal (hSguIdeal := hSguIdeal) (hSguRefIdeal := hSguRefIdeal)
    ∧ preserves_Ffn_FfnIdeal
    ∧ algebraic_FfnIdeal_FfnRefIdeal (hFfnIdeal := hFfnIdeal) (hFfnRefIdeal := hFfnRefIdeal)
    ∧ preserves_Ffp_FfpIdeal
    ∧ algebraic_FfpIdeal_FfpRefIdeal (hFfpIdeal := hFfpIdeal) (hFfpRefIdeal := hFfpRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
-- ==== Sgu.lean ====
abbrev S4x2048x1024 : Shape := ⟨3, ![4, 2048, 1024]⟩
abbrev S2x8x6144 : Shape := ⟨3, ![2, 8, 6144]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x4x6144 : Shape := ⟨3, ![1, 4, 6144]⟩
abbrev S4x6144 : Shape := ⟨2, ![4, 6144]⟩
abbrev S4x1x6144 : Shape := ⟨3, ![4, 1, 6144]⟩
abbrev S1x1024 : Shape := ⟨2, ![1, 1024]⟩
abbrev S1024 : Shape := ⟨1, ![1024]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1024x4096 : Shape := ⟨2, ![1024, 4096]⟩
abbrev S2048 : Shape := ⟨1, ![2048]⟩
abbrev S8x128x128 : Shape := ⟨3, ![8, 128, 128]⟩
abbrev S2048x1024 : Shape := ⟨2, ![2048, 1024]⟩
abbrev S1x512x1024 : Shape := ⟨3, ![1, 512, 1024]⟩
abbrev S1x1x6144 : Shape := ⟨3, ![1, 1, 6144]⟩
abbrev S1x1x1024 : Shape := ⟨3, ![1, 1, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S128x4096 : Shape := ⟨2, ![128, 4096]⟩
abbrev S1x128x128 : Shape := ⟨3, ![1, 128, 128]⟩
abbrev S128x128 : Shape := ⟨2, ![128, 128]⟩
abbrev S128x256 : Shape := ⟨2, ![128, 256]⟩

abbrev nBuf : Space → Nat
  | .hbm => 30
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S2x8x6144, .f32⟩
  | .hbm, ⟨2, _⟩ => ⟨S2x1024, .f32⟩
  | .hbm, ⟨3, _⟩ => ⟨S1x1024x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S1x4x6144, .f32⟩
  | .hbm, ⟨10, _⟩ => ⟨S4x6144, .f32⟩
  | .hbm, ⟨11, _⟩ => ⟨S4x1x6144, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8x128, .f32⟩
  | .hbm, ⟨16, _⟩ => ⟨S128x8, .f32⟩
  | .hbm, ⟨17, _⟩ => ⟨S128x8x256, .f32⟩
  | .hbm, ⟨18, _⟩ => ⟨S128x2048, .f32⟩
  | .hbm, ⟨19, _⟩ => ⟨S1024x4096, .f32⟩
  | .hbm, ⟨20, _⟩ => ⟨S1024x4096, .bf16⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S8x128x128, .f32⟩
  | .hbm, ⟨26, _⟩ => ⟨S8x128x128, .bf16⟩
  | .hbm, ⟨27, _⟩ => ⟨S2048x1024, .f32⟩
  | .hbm, ⟨28, _⟩ => ⟨S2048x1024, .bf16⟩
  | .hbm, ⟨29, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4096, .bf16⟩
  | .local _ .vmem, ⟨6, _⟩ => ⟨S1x2048, .f32⟩
  | .local _ .vmem, ⟨7, _⟩ => ⟨S1x2048, .f32⟩
  | .local _ .vmem, ⟨8, _⟩ => ⟨S8x128x128, .bf16⟩
  | .local _ .vmem, ⟨9, _⟩ => ⟨S128x2048, .f32⟩
  | .local _ .vmem, ⟨10, _⟩ => ⟨S2048x1024, .bf16⟩
  | .local _ .vmem, ⟨11, _⟩ => ⟨S1x512x1024, .f32⟩
  | .local _ .vmem, ⟨12, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SguRefIdeal.lean ====
abbrev S4x2048x1024 : Shape := ⟨3, ![4, 2048, 1024]⟩
abbrev S2x8x6144 : Shape := ⟨3, ![2, 8, 6144]⟩
abbrev S2x1024 : Shape := ⟨2, ![2, 1024]⟩
abbrev S1x1024x4096 : Shape := ⟨3, ![1, 1024, 4096]⟩
abbrev S1x2048 : Shape := ⟨2, ![1, 2048]⟩
abbrev S1x8x128x128 : Shape := ⟨4, ![1, 8, 128, 128]⟩
abbrev S1x8x128 : Shape := ⟨3, ![1, 8, 128]⟩
abbrev S1x2048x1024 : Shape := ⟨3, ![1, 2048, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1024 : Shape := ⟨2, ![1, 1024]⟩
abbrev S1024 : Shape := ⟨1, ![1024]⟩
abbrev S1x1x1024 : Shape := ⟨3, ![1, 1, 1024]⟩
abbrev S1024x4096 : Shape := ⟨2, ![1024, 4096]⟩
abbrev S4x2048x4096 : Shape := ⟨3, ![4, 2048, 4096]⟩
abbrev S4x2048x2048 : Shape := ⟨3, ![4, 2048, 2048]⟩
abbrev S2048 : Shape := ⟨1, ![2048]⟩
abbrev S1x1x2048 : Shape := ⟨3, ![1, 1, 2048]⟩
abbrev S4x16x128x8x256 : Shape := ⟨5, ![4, 16, 128, 8, 256]⟩
abbrev S8x128x128 : Shape := ⟨3, ![8, 128, 128]⟩
abbrev S8x4x16x256x128 : Shape := ⟨5, ![8, 4, 16, 256, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S2048x1024 : Shape := ⟨2, ![2048, 1024]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2x8x6144, .f32⟩
  | .hbm, ⟨2, _⟩ => ⟨S2x1024, .f32⟩
  | .hbm, ⟨3, _⟩ => ⟨S1x1024x4096, .f32⟩
  | .hbm, ⟨4, _⟩ => ⟨S1x2048, .f32⟩
  | .hbm, ⟨5, _⟩ => ⟨S1x2048, .f32⟩
  | .hbm, ⟨6, _⟩ => ⟨S1x8x128x128, .f32⟩
  | .hbm, ⟨7, _⟩ => ⟨S1x8x128, .f32⟩
  | .hbm, ⟨8, _⟩ => ⟨S1x2048x1024, .f32⟩
  | .hbm, ⟨9, _⟩ => ⟨S1x4x6144, .f32⟩
  | .hbm, ⟨10, _⟩ => ⟨S4x6144, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x2048x1024, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S1024x4096, .f32⟩
  | .hbm, ⟨44, _⟩ => ⟨S4x2048x4096, .f32⟩
  | .hbm, ⟨45, _⟩ => ⟨S_, .f32⟩
  | .hbm, ⟨46, _⟩ => ⟨S4x2048x4096, .f32⟩
  | .hbm, ⟨47, _⟩ => ⟨S4x2048x4096, .f32⟩
  | .hbm, ⟨48, _⟩ => ⟨S4x2048x4096, .f32⟩
  | .hbm, ⟨49, _⟩ => ⟨S_, .f32⟩
  | .hbm, ⟨50, _⟩ => ⟨S4x2048x4096, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x2048, .f32⟩
  | .hbm, ⟨72, _⟩ => ⟨S4x2048x2048, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x2048, .f32⟩
  | .hbm, ⟨78, _⟩ => ⟨S4x2048x2048, .f32⟩
  | .hbm, ⟨79, _⟩ => ⟨S2048, .f32⟩
  | .hbm, ⟨80, _⟩ => ⟨S1x1x2048, .f32⟩
  | .hbm, ⟨81, _⟩ => ⟨S4x2048x2048, .f32⟩
  | .hbm, ⟨82, _⟩ => ⟨S4x2048x2048, .f32⟩
  | .hbm, ⟨83, _⟩ => ⟨S2048, .f32⟩
  | .hbm, ⟨84, _⟩ => ⟨S1x1x2048, .f32⟩
  | .hbm, ⟨85, _⟩ => ⟨S4x2048x2048, .f32⟩
  | .hbm, ⟨86, _⟩ => ⟨S4x2048x2048, .f32⟩
  | .hbm, ⟨87, _⟩ => ⟨S4x16x128x8x256, .f32⟩
  | .hbm, ⟨88, _⟩ => ⟨S8x128x128, .f32⟩
  | .hbm, ⟨89, _⟩ => ⟨S8x4x16x256x128, .f32⟩
  | .hbm, ⟨90, _⟩ => ⟨S4x16x128x8x256, .f32⟩
  | .hbm, ⟨91, _⟩ => ⟨S8x128, .f32⟩
  | .hbm, ⟨92, _⟩ => ⟨S128x8, .f32⟩
  | .hbm, ⟨93, _⟩ => ⟨S128x8x1, .f32⟩
  | .hbm, ⟨94, _⟩ => ⟨S1x1x128x8x1, .f32⟩
  | .hbm, ⟨95, _⟩ => ⟨S4x16x128x8x256, .f32⟩
  | .hbm, ⟨96, _⟩ => ⟨S4x16x128x8x256, .f32⟩
  | .hbm, ⟨97, _⟩ => ⟨S4x2048x2048, .f32⟩
  | .hbm, ⟨98, _⟩ => ⟨S4x2048x2048, .f32⟩
  | .hbm, ⟨99, _⟩ => ⟨S2048x1024, .f32⟩
  | .hbm, ⟨100, _⟩ => ⟨S4x2048x1024, .f32⟩
  | .hbm, ⟨101, _⟩ => ⟨S4x2048x1024, .f32⟩
  | .hbm, ⟨102, _⟩ => ⟨S4x2048x1024, .f32⟩
  | .hbm, ⟨103, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Ffn.lean ====
abbrev S4x2048x1024 : Shape := ⟨3, ![4, 2048, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x3x3x5632 : Shape := ⟨4, ![2, 3, 3, 5632]⟩
abbrev S2x5632 : Shape := ⟨2, ![2, 5632]⟩
abbrev S2x2816x1024 : Shape := ⟨3, ![2, 2816, 1024]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S1x1024 : Shape := ⟨2, ![1, 1024]⟩
abbrev S1x1024x5632 : Shape := ⟨3, ![1, 1024, 5632]⟩
abbrev S1024x5632 : Shape := ⟨2, ![1024, 5632]⟩
abbrev S1x3x3x5632 : Shape := ⟨4, ![1, 3, 3, 5632]⟩
abbrev S3x3x5632 : Shape := ⟨3, ![3, 3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S9x5632 : Shape := ⟨2, ![9, 5632]⟩
abbrev S1x512x1024 : Shape := ⟨3, ![1, 512, 1024]⟩
abbrev S1x64x1024 : Shape := ⟨3, ![1, 64, 1024]⟩
abbrev S1x1x6144 : Shape := ⟨3, ![1, 1, 6144]⟩
abbrev S1024x1408 : Shape := ⟨2, ![1024, 1408]⟩
abbrev S9x1408 : Shape := ⟨2, ![9, 1408]⟩
abbrev S1x1408 : Shape := ⟨2, ![1, 1408]⟩
abbrev S1408x1024 : Shape := ⟨2, ![1408, 1024]⟩
abbrev S640x1024 : Shape := ⟨2, ![640, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S64x1024 : Shape := ⟨2, ![64, 1024]⟩
abbrev S64 : Shape := ⟨1, ![64]⟩
abbrev S64x1 : Shape := ⟨2, ![64, 1]⟩
abbrev S640x1408 : Shape := ⟨2, ![640, 1408]⟩
abbrev S64x1408 : Shape := ⟨2, ![64, 1408]⟩
abbrev S512x1408 : Shape := ⟨2, ![512, 1408]⟩

abbrev nBuf : Space → Nat
  | .hbm => 28
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x3x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S1x4x6144, .f32⟩
  | .hbm, ⟨9, _⟩ => ⟨S4x6144, .f32⟩
  | .hbm, ⟨10, _⟩ => ⟨S4x1x6144, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x3x3x5632, .f32⟩
  | .hbm, ⟨19, _⟩ => ⟨S3x3x5632, .f32⟩
  | .hbm, ⟨20, _⟩ => ⟨S1x5632, .f32⟩
  | .hbm, ⟨21, _⟩ => ⟨S5632, .f32⟩
  | .hbm, ⟨22, _⟩ => ⟨S1x2816x1024, .f32⟩
  | .hbm, ⟨23, _⟩ => ⟨S2816x1024, .f32⟩
  | .hbm, ⟨24, _⟩ => ⟨S2816x1024, .bf16⟩
  | .hbm, ⟨25, _⟩ => ⟨S9x5632, .f32⟩
  | .hbm, ⟨26, _⟩ => ⟨S1x5632, .f32⟩
  | .hbm, ⟨27, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1024x1408, .bf16⟩
  | .local _ .vmem, ⟨13, _⟩ => ⟨S9x1408, .f32⟩
  | .local _ .vmem, ⟨14, _⟩ => ⟨S9x1408, .f32⟩
  | .local _ .vmem, ⟨15, _⟩ => ⟨S9x1408, .f32⟩
  | .local _ .vmem, ⟨16, _⟩ => ⟨S9x1408, .f32⟩
  | .local _ .vmem, ⟨17, _⟩ => ⟨S1x1408, .f32⟩
  | .local _ .vmem, ⟨18, _⟩ => ⟨S1x1408, .f32⟩
  | .local _ .vmem, ⟨19, _⟩ => ⟨S1x1408, .f32⟩
  | .local _ .vmem, ⟨20, _⟩ => ⟨S1x1408, .f32⟩
  | .local _ .vmem, ⟨21, _⟩ => ⟨S1408x1024, .bf16⟩
  | .local _ .vmem, ⟨22, _⟩ => ⟨S1408x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | .local _ .vmem, ⟨26, _⟩ => ⟨S640x1024, .bf16⟩
  | .local _ .vmem, ⟨27, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨3, ![4, 4, 2], ![false, false, false]⟩

def k0_cond4 (i : grid0.Coords) : BitVec 1 :=
  let arg2 : BitVec 32 := BitVec.ofNat 32 (i 2).val
  let c1_i32_76 : BitVec 32 := 1#32
  let v210 : BitVec 1 := Scalar.cmpi .eq arg2 c1_i32_76
  let v211 : BitVec 32 := Scalar.extui v210
  let c0_i32_77 : BitVec 32 := 0#32
  let v212 : BitVec 1 := Scalar.cmpi .ne v211 c0_i32_77
  v212

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c8_i32 : BitVec 32 := 8#32
  let v1 : BitVec 32 := Scalar.muli v0 c8_i32
  let c31_i32 : BitVec 32 := 31#32
  let v2 : BitVec 32 := Scalar.minsi v1 c31_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S9x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S9x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true]

abbrev stage0_11 : Fin 2 → Memref sig .tc .vmem S1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]
-- ==== FfnRefIdeal.lean ====
abbrev S4x2048x1024 : Shape := ⟨3, ![4, 2048, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x3x3x5632 : Shape := ⟨4, ![2, 3, 3, 5632]⟩
abbrev S2x5632 : Shape := ⟨2, ![2, 5632]⟩
abbrev S2x2816x1024 : Shape := ⟨3, ![2, 2816, 1024]⟩
abbrev S1024 : Shape := ⟨1, ![1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1024 : Shape := ⟨2, ![1, 1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S4x2048x5632 : Shape := ⟨3, ![4, 2048, 5632]⟩
abbrev S4x32x64x5632 : Shape := ⟨4, ![4, 32, 64, 5632]⟩
abbrev S4x34x66x5632 : Shape := ⟨4, ![4, 34, 66, 5632]⟩
abbrev S1x1x1x5632 : Shape := ⟨4, ![1, 1, 1, 5632]⟩
abbrev S5632 : Shape := ⟨1, ![5632]⟩
abbrev S1x5632 : Shape := ⟨2, ![1, 5632]⟩
abbrev S1x1x5632 : Shape := ⟨3, ![1, 1, 5632]⟩
abbrev S4x2048x2816 : Shape := ⟨3, ![4, 2048, 2816]⟩
abbrev S1x2816x1024 : Shape := ⟨3, ![1, 2816, 1024]⟩
abbrev S2816x1024 : Shape := ⟨2, ![2816, 1024]⟩

abbrev nBuf : Space → Nat
  | .hbm => 154
  | .vmem => 0
  | .smem => 0
  | _ => 0

abbrev hbmTy0_0 (i : Nat) : BufTy := match i % 128 with
  | 0 => ⟨S4x2048x1024, .f32⟩
  | 1 => ⟨S2x8x6144, .f32⟩
  | 2 => ⟨S2x1024, .f32⟩
  | 3 => ⟨S2x1024x5632, .f32⟩
  | 4 => ⟨S2x3x3x5632, .f32⟩
  | 5 => ⟨S2x5632, .f32⟩
  | 6 => ⟨S2x2816x1024, .f32⟩
  | 7 => ⟨S1024, .f32⟩
  | 8 => ⟨S1x4x6144, .f32⟩
  | 9 => ⟨S4x6144, .f32⟩
  | 10 => ⟨S4x1x6144, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x2048x1024, .f32⟩
  | 18 => ⟨S_, .f32⟩
  | 19 => ⟨S4x2048, .f32⟩
  | 20 => ⟨S4x2048x1, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S4x2048x1, .f32⟩
  | 28 => ⟨S4x2048x1024, .f32⟩
  | 29 => ⟨S4x2048x1024, .f32⟩
  | 30 => ⟨S1x1024, .f32⟩
  | 31 => ⟨S1024, .f32⟩
  | 32 => ⟨S1x1x1024, .f32⟩
  | 33 => ⟨S4x2048x1024, .f32⟩
  | 34 => ⟨S4x2048x1024, .f32⟩
  | 35 => ⟨S_, .f32⟩
  | 36 => ⟨S4x1x1024, .f32⟩
  | 37 => ⟨S4x1x1024, .f32⟩
  | 38 => ⟨S4x2048x1024, .f32⟩
  | 39 => ⟨S4x2048x1024, .f32⟩
  | 40 => ⟨S4x2048x1024, .f32⟩
  | 41 => ⟨S4x2048x1024, .f32⟩
  | 42 => ⟨S1x1024x5632, .f32⟩
  | 43 => ⟨S1024x5632, .f32⟩
  | 44 => ⟨S4x2048x5632, .f32⟩
  | 45 => ⟨S4x32x64x5632, .f32⟩
  | 46 => ⟨S_, .i32⟩
  | 47 => ⟨S_, .f32⟩
  | 48 => ⟨S4x34x66x5632, .f32⟩
  | 49 => ⟨S4x32x64x5632, .f32⟩
  | 50 => ⟨S1x1x1x5632, .f32⟩
  | 51 => ⟨S5632, .f32⟩
  | 52 => ⟨S1x1x1x5632, .f32⟩
  | 53 => ⟨S4x32x64x5632, .f32⟩
  | 54 => ⟨S4x32x64x5632, .f32⟩
  | 55 => ⟨S_, .f32⟩
  | 56 => ⟨S4x32x64x5632, .f32⟩
  | 57 => ⟨S4x32x64x5632, .f32⟩
  | 58 => ⟨S4x32x64x5632, .f32⟩
  | 59 => ⟨S1x1x1x5632, .f32⟩
  | 60 => ⟨S5632, .f32⟩
  | 61 => ⟨S1x1x1x5632, .f32⟩
  | 62 => ⟨S4x32x64x5632, .f32⟩
  | 63 => ⟨S4x32x64x5632, .f32⟩
  | 64 => ⟨S4x32x64x5632, .f32⟩
  | 65 => ⟨S4x32x64x5632, .f32⟩
  | 66 => ⟨S1x1x1x5632, .f32⟩
  | 67 => ⟨S5632, .f32⟩
  | 68 => ⟨S1x1x1x5632, .f32⟩
  | 69 => ⟨S4x32x64x5632, .f32⟩
  | 70 => ⟨S4x32x64x5632, .f32⟩
  | 71 => ⟨S4x32x64x5632, .f32⟩
  | 72 => ⟨S4x32x64x5632, .f32⟩
  | 73 => ⟨S1x1x1x5632, .f32⟩
  | 74 => ⟨S5632, .f32⟩
  | 75 => ⟨S1x1x1x5632, .f32⟩
  | 76 => ⟨S4x32x64x5632, .f32⟩
  | 77 => ⟨S4x32x64x5632, .f32⟩
  | 78 => ⟨S4x32x64x5632, .f32⟩
  | 79 => ⟨S4x32x64x5632, .f32⟩
  | 80 => ⟨S1x1x1x5632, .f32⟩
  | 81 => ⟨S5632, .f32⟩
  | 82 => ⟨S1x1x1x5632, .f32⟩
  | 83 => ⟨S4x32x64x5632, .f32⟩
  | 84 => ⟨S4x32x64x5632, .f32⟩
  | 85 => ⟨S4x32x64x5632, .f32⟩
  | 86 => ⟨S4x32x64x5632, .f32⟩
  | 87 => ⟨S1x1x1x5632, .f32⟩
  | 88 => ⟨S5632, .f32⟩
  | 89 => ⟨S1x1x1x5632, .f32⟩
  | 90 => ⟨S4x32x64x5632, .f32⟩
  | 91 => ⟨S4x32x64x5632, .f32⟩
  | 92 => ⟨S4x32x64x5632, .f32⟩
  | 93 => ⟨S4x32x64x5632, .f32⟩
  | 94 => ⟨S1x1x1x5632, .f32⟩
  | 95 => ⟨S5632, .f32⟩
  | 96 => ⟨S1x1x1x5632, .f32⟩
  | 97 => ⟨S4x32x64x5632, .f32⟩
  | 98 => ⟨S4x32x64x5632, .f32⟩
  | 99 => ⟨S4x32x64x5632, .f32⟩
  | 100 => ⟨S4x32x64x5632, .f32⟩
  | 101 => ⟨S1x1x1x5632, .f32⟩
  | 102 => ⟨S5632, .f32⟩
  | 103 => ⟨S1x1x1x5632, .f32⟩
  | 104 => ⟨S4x32x64x5632, .f32⟩
  | 105 => ⟨S4x32x64x5632, .f32⟩
  | 106 => ⟨S4x32x64x5632, .f32⟩
  | 107 => ⟨S4x32x64x5632, .f32⟩
  | 108 => ⟨S1x1x1x5632, .f32⟩
  | 109 => ⟨S5632, .f32⟩
  | 110 => ⟨S1x1x1x5632, .f32⟩
  | 111 => ⟨S4x32x64x5632, .f32⟩
  | 112 => ⟨S4x32x64x5632, .f32⟩
  | 113 => ⟨S4x32x64x5632, .f32⟩
  | 114 => ⟨S4x2048x5632, .f32⟩
  | 115 => ⟨S1x5632, .f32⟩
  | 116 => ⟨S5632, .f32⟩
  | 117 => ⟨S1x1x5632, .f32⟩
  | 118 => ⟨S4x2048x5632, .f32⟩
  | 119 => ⟨S4x2048x5632, .f32⟩
  | 120 => ⟨S4x2048x2816, .f32⟩
  | 121 => ⟨S4x2048x2816, .f32⟩
  | 122 => ⟨S4x2048x2816, .f32⟩
  | 123 => ⟨S4x2048x2816, .f32⟩
  | 124 => ⟨S_, .f32⟩
  | 125 => ⟨S4x2048x2816, .f32⟩
  | 126 => ⟨S4x2048x2816, .f32⟩
  | 127 => ⟨S_, .f32⟩
  | _ => ⟨S4x2048x1024, .f32⟩

abbrev hbmTy0_1 (i : Nat) : BufTy := match i % 128 with
  | 0 => ⟨S4x2048x2816, .f32⟩
  | 1 => ⟨S4x2048x2816, .f32⟩
  | 2 => ⟨S4x2048x2816, .f32⟩
  | 3 => ⟨S4x2048x2816, .f32⟩
  | 4 => ⟨S1x2816x1024, .f32⟩
  | 5 => ⟨S2816x1024, .f32⟩
  | 6 => ⟨S4x2048x1024, .f32⟩
  | 7 => ⟨S4x2048x1024, .f32⟩
  | 8 => ⟨S4x2048x1024, .f32⟩
  | 9 => ⟨S4x2048x1024, .f32⟩
  | 10 => ⟨S4x2048x1024, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S_, .f32⟩
  | 18 => ⟨S4x2048x1, .f32⟩
  | 19 => ⟨S4x2048x1, .f32⟩
  | 20 => ⟨S4x2048x1, .f32⟩
  | 21 => ⟨S4x2048x1024, .f32⟩
  | 22 => ⟨S4x2048x1024, .f32⟩
  | 23 => ⟨S1x1x1024, .f32⟩
  | 24 => ⟨S4x2048x1024, .f32⟩
  | 25 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_cst_4 : Ref sig .tc := ⟨.hbm, 139, rfl⟩
abbrev main_v116 : Ref sig .tc := ⟨.hbm, 140, rfl⟩
abbrev main_v117 : Ref sig .tc := ⟨.hbm, 141, rfl⟩
abbrev main_cst_5 : Ref sig .tc := ⟨.hbm, 142, rfl⟩
abbrev main_v118 : Ref sig .tc := ⟨.hbm, 143, rfl⟩
abbrev main_v119 : Ref sig .tc := ⟨.hbm, 144, rfl⟩
abbrev main_cst_6 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩

abbrev nD : Nat := 1
abbrev τ : Topo := Topo.v7x

variable {F : FTy → Type} [FloatOps F]
-- ==== Ffp.lean ====
abbrev S16x256x1024 : Shape := ⟨3, ![16, 256, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x3x3x5632 : Shape := ⟨4, ![2, 3, 3, 5632]⟩
abbrev S2x5632 : Shape := ⟨2, ![2, 5632]⟩
abbrev S2x2816x1024 : Shape := ⟨3, ![2, 2816, 1024]⟩
abbrev S1024 : Shape := ⟨1, ![1024]⟩
abbrev S1x1x6144 : Shape := ⟨3, ![1, 1, 6144]⟩
abbrev S1x6144 : Shape := ⟨2, ![1, 6144]⟩
abbrev S1x1024 : Shape := ⟨2, ![1, 1024]⟩
abbrev S1x1024x5632 : Shape := ⟨3, ![1, 1024, 5632]⟩
abbrev S1024x5632 : Shape := ⟨2, ![1024, 5632]⟩
abbrev S1x3x3x5632 : Shape := ⟨4, ![1, 3, 3, 5632]⟩
abbrev S3x3x5632 : Shape := ⟨3, ![3, 3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S8x512x1024 : Shape := ⟨3, ![8, 512, 1024]⟩
abbrev S9x5632 : Shape := ⟨2, ![9, 5632]⟩
abbrev S1x512x1024 : Shape := ⟨3, ![1, 512, 1024]⟩
abbrev S1024x1408 : Shape := ⟨2, ![1024, 1408]⟩
abbrev S9x1408 : Shape := ⟨2, ![9, 1408]⟩
abbrev S1x1408 : Shape := ⟨2, ![1, 1408]⟩
abbrev S1408x1024 : Shape := ⟨2, ![1408, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S512x1408 : Shape := ⟨2, ![512, 1408]⟩

abbrev nBuf : Space → Nat
  | .hbm => 29
  | .vmem => 23
  | .smem => 0
  | _ => 0

abbrev bufTy : (tb : Table) → Fin (tcTables nBuf tb) → BufTy
  | .hbm, ⟨0, _⟩ => ⟨S16x256x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x3x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S1x1x6144, .f32⟩
  | .hbm, ⟨9, _⟩ => ⟨S1x6144, .f32⟩
  | .hbm, ⟨10, _⟩ => ⟨S1x1x6144, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1x1024x5632, .f32⟩
  | .hbm, ⟨16, _⟩ => ⟨S1024x5632, .f32⟩
  | .hbm, ⟨17, _⟩ => ⟨S1024x5632, .bf16⟩
  | .hbm, ⟨18, _⟩ => ⟨S1x3x3x5632, .f32⟩
  | .hbm, ⟨19, _⟩ => ⟨S3x3x5632, .f32⟩
  | .hbm, ⟨20, _⟩ => ⟨S1x5632, .f32⟩
  | .hbm, ⟨21, _⟩ => ⟨S5632, .f32⟩
  | .hbm, ⟨22, _⟩ => ⟨S1x2816x1024, .f32⟩
  | .hbm, ⟨23, _⟩ => ⟨S2816x1024, .f32⟩
  | .hbm, ⟨24, _⟩ => ⟨S2816x1024, .bf16⟩
  | .hbm, ⟨25, _⟩ => ⟨S8x512x1024, .f32⟩
  | .hbm, ⟨26, _⟩ => ⟨S9x5632, .f32⟩
  | .hbm, ⟨27, _⟩ => ⟨S1x5632, .f32⟩
  | .hbm, ⟨28, _⟩ => ⟨S8x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6144, .f32⟩
  | .local _ .vmem, ⟨3, _⟩ => ⟨S1x1024, .f32⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S9x1408, .f32⟩
  | .local _ .vmem, ⟨9, _⟩ => ⟨S9x1408, .f32⟩
  | .local _ .vmem, ⟨10, _⟩ => ⟨S9x1408, .f32⟩
  | .local _ .vmem, ⟨11, _⟩ => ⟨S9x1408, .f32⟩
  | .local _ .vmem, ⟨12, _⟩ => ⟨S1x1408, .f32⟩
  | .local _ .vmem, ⟨13, _⟩ => ⟨S1x1408, .f32⟩
  | .local _ .vmem, ⟨14, _⟩ => ⟨S1x1408, .f32⟩
  | .local _ .vmem, ⟨15, _⟩ => ⟨S1x1408, .f32⟩
  | .local _ .vmem, ⟨16, _⟩ => ⟨S1408x1024, .bf16⟩
  | .local _ .vmem, ⟨17, _⟩ => ⟨S1408x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S512x1024, .bf16⟩
  | .local _ .vmem, ⟨22, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![8, 1, 2], ![false, false, false]⟩

def k0_cond4 (i : grid0.Coords) : BitVec 1 :=
  let arg2 : BitVec 32 := BitVec.ofNat 32 (i 2).val
  let c1_i32_52 : BitVec 32 := 1#32
  let v128 : BitVec 1 := Scalar.cmpi .eq arg2 c1_i32_52
  let v129 : BitVec 32 := Scalar.extui v128
  let c0_i32_53 : BitVec 32 := 0#32
  let v130 : BitVec 1 := Scalar.cmpi .ne v129 c0_i32_53
  v130

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S9x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S9x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1408x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== FfpRefIdeal.lean ====
abbrev S16x256x1024 : Shape := ⟨3, ![16, 256, 1024]⟩
abbrev S2x8x6144 : Shape := ⟨3, ![2, 8, 6144]⟩
abbrev S2x1024 : Shape := ⟨2, ![2, 1024]⟩
abbrev S2x1024x5632 : Shape := ⟨3, ![2, 1024, 5632]⟩
abbrev S2x3x3x5632 : Shape := ⟨4, ![2, 3, 3, 5632]⟩
abbrev S2x5632 : Shape := ⟨2, ![2, 5632]⟩
abbrev S2x2816x1024 : Shape := ⟨3, ![2, 2816, 1024]⟩
abbrev S1024 : Shape := ⟨1, ![1024]⟩
abbrev S1x1x6144 : Shape := ⟨3, ![1, 1, 6144]⟩
abbrev S1x6144 : Shape := ⟨2, ![1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1x1024 : Shape := ⟨2, ![1, 1024]⟩
abbrev S1x1024x5632 : Shape := ⟨3, ![1, 1024, 5632]⟩
abbrev S1024x5632 : Shape := ⟨2, ![1024, 5632]⟩
abbrev S16x256x5632 : Shape := ⟨3, ![16, 256, 5632]⟩
abbrev S16x255x5632 : Shape := ⟨3, ![16, 255, 5632]⟩
abbrev S1x1x1x5632 : Shape := ⟨4, ![1, 1, 1, 5632]⟩
abbrev S5632 : Shape := ⟨1, ![5632]⟩
abbrev S1x1x5632 : Shape := ⟨3, ![1, 1, 5632]⟩
abbrev S1x5632 : Shape := ⟨2, ![1, 5632]⟩
abbrev S16x256x2816 : Shape := ⟨3, ![16, 256, 2816]⟩
abbrev S1x2816x1024 : Shape := ⟨3, ![1, 2816, 1024]⟩
abbrev S2816x1024 : Shape := ⟨2, ![2816, 1024]⟩
abbrev S8x512x1024 : Shape := ⟨3, ![8, 512, 1024]⟩

abbrev nBuf : Space → Nat
  | .hbm => 110
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S2x8x6144, .f32⟩
  | .hbm, ⟨2, _⟩ => ⟨S2x1024, .f32⟩
  | .hbm, ⟨3, _⟩ => ⟨S2x1024x5632, .f32⟩
  | .hbm, ⟨4, _⟩ => ⟨S2x3x3x5632, .f32⟩
  | .hbm, ⟨5, _⟩ => ⟨S2x5632, .f32⟩
  | .hbm, ⟨6, _⟩ => ⟨S2x2816x1024, .f32⟩
  | .hbm, ⟨7, _⟩ => ⟨S1024, .f32⟩
  | .hbm, ⟨8, _⟩ => ⟨S1x1x6144, .f32⟩
  | .hbm, ⟨9, _⟩ => ⟨S1x6144, .f32⟩
  | .hbm, ⟨10, _⟩ => ⟨S1x1x6144, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S16x256x1024, .f32⟩
  | .hbm, ⟨18, _⟩ => ⟨S_, .f32⟩
  | .hbm, ⟨19, _⟩ => ⟨S16x256, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x1024, .f32⟩
  | .hbm, ⟨29, _⟩ => ⟨S16x256x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S16x256x1024, .f32⟩
  | .hbm, ⟨39, _⟩ => ⟨S16x256x1024, .f32⟩
  | .hbm, ⟨40, _⟩ => ⟨S16x256x1024, .f32⟩
  | .hbm, ⟨41, _⟩ => ⟨S16x256x1024, .f32⟩
  | .hbm, ⟨42, _⟩ => ⟨S1x1024x5632, .f32⟩
  | .hbm, ⟨43, _⟩ => ⟨S1024x5632, .f32⟩
  | .hbm, ⟨44, _⟩ => ⟨S16x256x5632, .f32⟩
  | .hbm, ⟨45, _⟩ => ⟨S16x255x5632, .f32⟩
  | .hbm, ⟨46, _⟩ => ⟨S_, .i32⟩
  | .hbm, ⟨47, _⟩ => ⟨S_, .f32⟩
  | .hbm, ⟨48, _⟩ => ⟨S16x256x5632, .f32⟩
  | .hbm, ⟨49, _⟩ => ⟨S16x255x5632, .f32⟩
  | .hbm, ⟨50, _⟩ => ⟨S_, .i32⟩
  | .hbm, ⟨51, _⟩ => ⟨S_, .f32⟩
  | .hbm, ⟨52, _⟩ => ⟨S16x256x5632, .f32⟩
  | .hbm, ⟨53, _⟩ => ⟨S1x1x1x5632, .f32⟩
  | .hbm, ⟨54, _⟩ => ⟨S5632, .f32⟩
  | .hbm, ⟨55, _⟩ => ⟨S1x1x5632, .f32⟩
  | .hbm, ⟨56, _⟩ => ⟨S16x256x5632, .f32⟩
  | .hbm, ⟨57, _⟩ => ⟨S16x256x5632, .f32⟩
  | .hbm, ⟨58, _⟩ => ⟨S1x1x1x5632, .f32⟩
  | .hbm, ⟨59, _⟩ => ⟨S5632, .f32⟩
  | .hbm, ⟨60, _⟩ => ⟨S1x1x5632, .f32⟩
  | .hbm, ⟨61, _⟩ => ⟨S16x256x5632, .f32⟩
  | .hbm, ⟨62, _⟩ => ⟨S16x256x5632, .f32⟩
  | .hbm, ⟨63, _⟩ => ⟨S16x256x5632, .f32⟩
  | .hbm, ⟨64, _⟩ => ⟨S1x1x1x5632, .f32⟩
  | .hbm, ⟨65, _⟩ => ⟨S5632, .f32⟩
  | .hbm, ⟨66, _⟩ => ⟨S1x1x5632, .f32⟩
  | .hbm, ⟨67, _⟩ => ⟨S16x256x5632, .f32⟩
  | .hbm, ⟨68, _⟩ => ⟨S16x256x5632, .f32⟩
  | .hbm, ⟨69, _⟩ => ⟨S16x256x5632, .f32⟩
  | .hbm, ⟨70, _⟩ => ⟨S1x5632, .f32⟩
  | .hbm, ⟨71, _⟩ => ⟨S5632, .f32⟩
  | .hbm, ⟨72, _⟩ => ⟨S1x1x5632, .f32⟩
  | .hbm, ⟨73, _⟩ => ⟨S16x256x5632, .f32⟩
  | .hbm, ⟨74, _⟩ => ⟨S16x256x5632, .f32⟩
  | .hbm, ⟨75, _⟩ => ⟨S16x256x2816, .f32⟩
  | .hbm, ⟨76, _⟩ => ⟨S16x256x2816, .f32⟩
  | .hbm, ⟨77, _⟩ => ⟨S16x256x2816, .f32⟩
  | .hbm, ⟨78, _⟩ => ⟨S16x256x2816, .f32⟩
  | .hbm, ⟨79, _⟩ => ⟨S_, .f32⟩
  | .hbm, ⟨80, _⟩ => ⟨S16x256x2816, .f32⟩
  | .hbm, ⟨81, _⟩ => ⟨S16x256x2816, .f32⟩
  | .hbm, ⟨82, _⟩ => ⟨S_, .f32⟩
  | .hbm, ⟨83, _⟩ => ⟨S16x256x2816, .f32⟩
  | .hbm, ⟨84, _⟩ => ⟨S16x256x2816, .f32⟩
  | .hbm, ⟨85, _⟩ => ⟨S16x256x2816, .f32⟩
  | .hbm, ⟨86, _⟩ => ⟨S16x256x2816, .f32⟩
  | .hbm, ⟨87, _⟩ => ⟨S1x2816x1024, .f32⟩
  | .hbm, ⟨88, _⟩ => ⟨S2816x1024, .f32⟩
  | .hbm, ⟨89, _⟩ => ⟨S16x256x1024, .f32⟩
  | .hbm, ⟨90, _⟩ => ⟨S16x256x1024, .f32⟩
  | .hbm, ⟨91, _⟩ => ⟨S16x256x1024, .f32⟩
  | .hbm, ⟨92, _⟩ => ⟨S16x256x1024, .f32⟩
  | .hbm, ⟨93, _⟩ => ⟨S16x256x1024, .f32⟩
  | .hbm, ⟨94, _⟩ => ⟨S_, .f32⟩
  | .hbm, ⟨95, _⟩ => ⟨S16x256, .f32⟩
  | .hbm, ⟨96, _⟩ => ⟨S16x256x1, .f32⟩
  | .hbm, ⟨97, _⟩ => ⟨S_, .f32⟩
  | .hbm, ⟨98, _⟩ => ⟨S16x256x1, .f32⟩
  | .hbm, ⟨99, _⟩ => ⟨S16x256x1, .f32⟩
  | .hbm, ⟨100, _⟩ => ⟨S_, .f32⟩
  | .hbm, ⟨101, _⟩ => ⟨S16x256x1, .f32⟩
  | .hbm, ⟨102, _⟩ => ⟨S16x256x1, .f32⟩
  | .hbm, ⟨103, _⟩ => ⟨S16x256x1, .f32⟩
  | .hbm, ⟨104, _⟩ => ⟨S16x256x1024, .f32⟩
  | .hbm, ⟨105, _⟩ => ⟨S16x256x1024, .f32⟩
  | .hbm, ⟨106, _⟩ => ⟨S1x1x1024, .f32⟩
  | .hbm, ⟨107, _⟩ => ⟨S16x256x1024, .f32⟩
  | .hbm, ⟨108, _⟩ => ⟨S16x256x1024, .f32⟩
  | .hbm, ⟨109, _⟩ => ⟨S8x512x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩
abbrev main_v35 : Ref sig .tc := ⟨.hbm, 49, rfl⟩
abbrev main_c_3 : Ref sig .tc := ⟨.hbm, 50, rfl⟩
abbrev main_call1_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_call2_v0 : Ref sig .tc := ⟨.hbm, 77, rfl⟩
abbrev main_call2_v1 : Ref sig .tc := ⟨.hbm, 78, rfl⟩
abbrev main_call2_cst : Ref sig .tc := ⟨.hbm, 79, rfl⟩
abbrev main_call2_v2 : Ref sig .tc := ⟨.hbm, 80, rfl⟩
abbrev main_call2_v3 : Ref sig .tc := ⟨.hbm, 81, rfl⟩
abbrev main_call2_cst_0 : Ref sig .tc := ⟨.hbm, 82, rfl⟩
abbrev main_call2_v4 : Ref sig .tc := ⟨.hbm, 83, rfl⟩
abbrev main_call2_v5 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_4 : Ref sig .tc := ⟨.hbm, 94, rfl⟩
abbrev main_v70 : Ref sig .tc := ⟨.hbm, 95, rfl⟩
abbrev main_v71 : Ref sig .tc := ⟨.hbm, 96, rfl⟩
abbrev main_cst_5 : Ref sig .tc := ⟨.hbm, 97, rfl⟩
abbrev main_v72 : Ref sig .tc := ⟨.hbm, 98, rfl⟩
abbrev main_v73 : Ref sig .tc := ⟨.hbm, 99, rfl⟩
abbrev main_cst_6 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]
-- ==== Out.lean ====
abbrev S4x2048x1024 : Shape := ⟨3, ![4, 2048, 1024]⟩
abbrev S4x256x64x128 : Shape := ⟨4, ![4, 256, 64, 128]⟩
abbrev S4x2048x128 : Shape := ⟨3, ![4, 2048, 128]⟩
abbrev S2x8x6144 : Shape := ⟨3, ![2, 8, 6144]⟩
abbrev S1x128x1024 : Shape := ⟨3, ![1, 128, 1024]⟩
abbrev S1x1024x1024 : Shape := ⟨3, ![1, 1024, 1024]⟩
abbrev S1x4x6144 : Shape := ⟨3, ![1, 4, 6144]⟩
abbrev S4x6144 : Shape := ⟨2, ![4, 6144]⟩
abbrev S4x1x6144 : Shape := ⟨3, ![4, 1, 6144]⟩
abbrev S128x1024 : Shape := ⟨2, ![128, 1024]⟩
abbrev S1024x1024 : Shape := ⟨2, ![1024, 1024]⟩
abbrev S1x512x1024 : Shape := ⟨3, ![1, 512, 1024]⟩
abbrev S1x64x64x128 : Shape := ⟨4, ![1, 64, 64, 128]⟩
abbrev S1x512x128 : Shape := ⟨3, ![1, 512, 128]⟩
abbrev S1x1x6144 : Shape := ⟨3, ![1, 1, 6144]⟩
abbrev S1x1x1024 : Shape := ⟨3, ![1, 1, 1024]⟩
abbrev S1x1024 : Shape := ⟨2, ![1, 1024]⟩
abbrev S512x128 : Shape := ⟨2, ![512, 128]⟩
abbrev S512x1024 : Shape := ⟨2, ![512, 1024]⟩
abbrev S1x64x8x128 : Shape := ⟨4, ![1, 64, 8, 128]⟩
abbrev S64x8x128 : Shape := ⟨3, ![64, 8, 128]⟩

abbrev nBuf : Space → Nat
  | .hbm => 14
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x256x64x128, .f32⟩
  | .hbm, ⟨2, _⟩ => ⟨S4x2048x128, .f32⟩
  | .hbm, ⟨3, _⟩ => ⟨S2x8x6144, .f32⟩
  | .hbm, ⟨4, _⟩ => ⟨S1x128x1024, .f32⟩
  | .hbm, ⟨5, _⟩ => ⟨S1x1024x1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S128x1024, .f32⟩
  | .hbm, ⟨10, _⟩ => ⟨S128x1024, .bf16⟩
  | .hbm, ⟨11, _⟩ => ⟨S1024x1024, .f32⟩
  | .hbm, ⟨12, _⟩ => ⟨S1024x1024, .bf16⟩
  | .hbm, ⟨13, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x64x64x128, .f32⟩
  | .local _ .vmem, ⟨3, _⟩ => ⟨S1x64x64x128, .f32⟩
  | .local _ .vmem, ⟨4, _⟩ => ⟨S1x512x128, .f32⟩
  | .local _ .vmem, ⟨5, _⟩ => ⟨S1x512x128, .f32⟩
  | .local _ .vmem, ⟨6, _⟩ => ⟨S1x1x6144, .f32⟩
  | .local _ .vmem, ⟨7, _⟩ => ⟨S1x1x6144, .f32⟩
  | .local _ .vmem, ⟨8, _⟩ => ⟨S128x1024, .bf16⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutRefIdeal.lean ====
abbrev S4x2048x1024 : Shape := ⟨3, ![4, 2048, 1024]⟩
abbrev S4x256x64x128 : Shape := ⟨4, ![4, 256, 64, 128]⟩
abbrev S4x2048x128 : Shape := ⟨3, ![4, 2048, 128]⟩
abbrev S2x8x6144 : Shape := ⟨3, ![2, 8, 6144]⟩
abbrev S1x128x1024 : Shape := ⟨3, ![1, 128, 1024]⟩
abbrev S1x1024x1024 : Shape := ⟨3, ![1, 1024, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S4x256x8x8x128 : Shape := ⟨5, ![4, 256, 8, 8, 128]⟩
abbrev S128x1024 : Shape := ⟨2, ![128, 1024]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x64x128, .f32⟩
  | .hbm, ⟨2, _⟩ => ⟨S4x2048x128, .f32⟩
  | .hbm, ⟨3, _⟩ => ⟨S2x8x6144, .f32⟩
  | .hbm, ⟨4, _⟩ => ⟨S1x128x1024, .f32⟩
  | .hbm, ⟨5, _⟩ => ⟨S1x1024x1024, .f32⟩
  | .hbm, ⟨6, _⟩ => ⟨S1x4x6144, .f32⟩
  | .hbm, ⟨7, _⟩ => ⟨S4x6144, .f32⟩
  | .hbm, ⟨8, _⟩ => ⟨S4x1x6144, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x256x8x8x128, .f32⟩
  | .hbm, ⟨16, _⟩ => ⟨S4x256x8x8x128, .f32⟩
  | .hbm, ⟨17, _⟩ => ⟨S4x2048x1024, .f32⟩
  | .hbm, ⟨18, _⟩ => ⟨S128x1024, .f32⟩
  | .hbm, ⟨19, _⟩ => ⟨S4x2048x1024, .f32⟩
  | .hbm, ⟨20, _⟩ => ⟨S4x2048x1024, .f32⟩
  | .hbm, ⟨21, _⟩ => ⟨S1024x1024, .f32⟩
  | .hbm, ⟨22, _⟩ => ⟨S4x2048x1024, .f32⟩
  | .hbm, ⟨23, _⟩ => ⟨S4x2048x1024, .f32⟩
  | .hbm, ⟨24, _⟩ => ⟨S4x2048x1024, .f32⟩
  | .hbm, ⟨25, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proj.lean ====
abbrev S4x2048x1024 : Shape := ⟨3, ![4, 2048, 1024]⟩
abbrev S2x8x6144 : Shape := ⟨3, ![2, 8, 6144]⟩
abbrev S2x1024 : Shape := ⟨2, ![2, 1024]⟩
abbrev S1x2x6x1024 : Shape := ⟨4, ![1, 2, 6, 1024]⟩
abbrev S1x1024x1024 : Shape := ⟨3, ![1, 1024, 1024]⟩
abbrev S1x2x1024 : Shape := ⟨3, ![1, 2, 1024]⟩
abbrev S1x2x1024x64 : Shape := ⟨4, ![1, 2, 1024, 64]⟩
abbrev S1x2x64x1024 : Shape := ⟨4, ![1, 2, 64, 1024]⟩
abbrev S1x1024x128 : Shape := ⟨3, ![1, 1024, 128]⟩
abbrev S1x4x6144 : Shape := ⟨3, ![1, 4, 6144]⟩
abbrev S4x6144 : Shape := ⟨2, ![4, 6144]⟩
abbrev S4x1x6144 : Shape := ⟨3, ![4, 1, 6144]⟩
abbrev S1x1024 : Shape := ⟨2, ![1, 1024]⟩
abbrev S1024 : Shape := ⟨1, ![1024]⟩
abbrev S1x1x1024x64 : Shape := ⟨4, ![1, 1, 1024, 64]⟩
abbrev S1024x64 : Shape := ⟨2, ![1024, 64]⟩
abbrev S1024x128 : Shape := ⟨2, ![1024, 128]⟩
abbrev S2x6x1024 : Shape := ⟨3, ![2, 6, 1024]⟩
abbrev S1024x1024 : Shape := ⟨2, ![1024, 1024]⟩
abbrev S2x64x1024 : Shape := ⟨3, ![2, 64, 1024]⟩
abbrev S4x256x64x128 : Shape := ⟨4, ![4, 256, 64, 128]⟩
abbrev S4x2048x128 : Shape := ⟨3, ![4, 2048, 128]⟩
abbrev S1x256x1024 : Shape := ⟨3, ![1, 256, 1024]⟩
abbrev S1x8x1024 : Shape := ⟨3, ![1, 8, 1024]⟩
abbrev S1x1x6144 : Shape := ⟨3, ![1, 1, 6144]⟩
abbrev S1x32x64x128 : Shape := ⟨4, ![1, 32, 64, 128]⟩
abbrev S1x256x128 : Shape := ⟨3, ![1, 256, 128]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S256x128 : Shape := ⟨2, ![256, 128]⟩
abbrev S32x8x128 : Shape := ⟨3, ![32, 8, 128]⟩
abbrev S1x32x8x128 : Shape := ⟨4, ![1, 32, 8, 128]⟩
abbrev S256x64 : Shape := ⟨2, ![256, 64]⟩
abbrev S1x64x1024 : Shape := ⟨3, ![1, 64, 1024]⟩
abbrev S64x1024 : Shape := ⟨2, ![64, 1024]⟩

abbrev nBuf : Space → Nat
  | .hbm => 55
  | .vmem => 36
  | .smem => 0
  | _ => 0

abbrev bufTy : (tb : Table) → Fin (tcTables nBuf tb) → BufTy
  | .hbm, ⟨0, _⟩ => ⟨S4x2048x1024, .f32⟩
  | .hbm, ⟨1, _⟩ => ⟨S2x8x6144, .f32⟩
  | .hbm, ⟨2, _⟩ => ⟨S2x1024, .f32⟩
  | .hbm, ⟨3, _⟩ => ⟨S1x2x6x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x2x1024, .f32⟩
  | .hbm, ⟨8, _⟩ => ⟨S1x2x1024x64, .f32⟩
  | .hbm, ⟨9, _⟩ => ⟨S1x2x64x1024, .f32⟩
  | .hbm, ⟨10, _⟩ => ⟨S1x2x1024, .f32⟩
  | .hbm, ⟨11, _⟩ => ⟨S1x2x1024x64, .f32⟩
  | .hbm, ⟨12, _⟩ => ⟨S1x2x64x1024, .f32⟩
  | .hbm, ⟨13, _⟩ => ⟨S1x1024x128, .f32⟩
  | .hbm, ⟨14, _⟩ => ⟨S1x4x6144, .f32⟩
  | .hbm, ⟨15, _⟩ => ⟨S4x6144, .f32⟩
  | .hbm, ⟨16, _⟩ => ⟨S4x1x6144, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1x1024x64, .f32⟩
  | .hbm, ⟨21, _⟩ => ⟨S1024x64, .f32⟩
  | .hbm, ⟨22, _⟩ => ⟨S1x1x1024x64, .f32⟩
  | .hbm, ⟨23, _⟩ => ⟨S1024x64, .f32⟩
  | .hbm, ⟨24, _⟩ => ⟨S1024x128, .f32⟩
  | .hbm, ⟨25, _⟩ => ⟨S1024x128, .bf16⟩
  | .hbm, ⟨26, _⟩ => ⟨S1x1x1024x64, .f32⟩
  | .hbm, ⟨27, _⟩ => ⟨S1024x64, .f32⟩
  | .hbm, ⟨28, _⟩ => ⟨S1x1x1024x64, .f32⟩
  | .hbm, ⟨29, _⟩ => ⟨S1024x64, .f32⟩
  | .hbm, ⟨30, _⟩ => ⟨S1024x128, .f32⟩
  | .hbm, ⟨31, _⟩ => ⟨S1024x128, .bf16⟩
  | .hbm, ⟨32, _⟩ => ⟨S2x6x1024, .f32⟩
  | .hbm, ⟨33, _⟩ => ⟨S1024x1024, .f32⟩
  | .hbm, ⟨34, _⟩ => ⟨S1024x1024, .bf16⟩
  | .hbm, ⟨35, _⟩ => ⟨S1024x1024, .f32⟩
  | .hbm, ⟨36, _⟩ => ⟨S1024x1024, .bf16⟩
  | .hbm, ⟨37, _⟩ => ⟨S1024x1024, .f32⟩
  | .hbm, ⟨38, _⟩ => ⟨S1024x1024, .bf16⟩
  | .hbm, ⟨39, _⟩ => ⟨S1024x128, .f32⟩
  | .hbm, ⟨40, _⟩ => ⟨S1024x128, .bf16⟩
  | .hbm, ⟨41, _⟩ => ⟨S2x64x1024, .f32⟩
  | .hbm, ⟨42, _⟩ => ⟨S2x64x1024, .bf16⟩
  | .hbm, ⟨43, _⟩ => ⟨S2x64x1024, .f32⟩
  | .hbm, ⟨44, _⟩ => ⟨S2x64x1024, .bf16⟩
  | .hbm, ⟨45, _⟩ => ⟨S2x1024, .f32⟩
  | .hbm, ⟨46, _⟩ => ⟨S2x1024, .f32⟩
  | .hbm, ⟨47, _⟩ => ⟨S4x256x64x128, .f32⟩
  | .hbm, ⟨48, _⟩ => ⟨S4x256x64x128, .f32⟩
  | .hbm, ⟨49, _⟩ => ⟨S4x256x64x128, .f32⟩
  | .hbm, ⟨50, _⟩ => ⟨S4x256x64x128, .f32⟩
  | .hbm, ⟨51, _⟩ => ⟨S4x256x64x128, .f32⟩
  | .hbm, ⟨52, _⟩ => ⟨S4x256x64x128, .f32⟩
  | .hbm, ⟨53, _⟩ => ⟨S4x256x64x128, .f32⟩
  | .hbm, ⟨54, _⟩ => ⟨S4x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S2x6x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S2x64x1024, .bf16⟩
  | .local _ .vmem, ⟨17, _⟩ => ⟨S2x64x1024, .bf16⟩
  | .local _ .vmem, ⟨18, _⟩ => ⟨S2x1024, .f32⟩
  | .local _ .vmem, ⟨19, _⟩ => ⟨S2x1024, .f32⟩
  | .local _ .vmem, ⟨20, _⟩ => ⟨S1x32x64x128, .f32⟩
  | .local _ .vmem, ⟨21, _⟩ => ⟨S1x32x64x128, .f32⟩
  | .local _ .vmem, ⟨22, _⟩ => ⟨S1x32x64x128, .f32⟩
  | .local _ .vmem, ⟨23, _⟩ => ⟨S1x32x64x128, .f32⟩
  | .local _ .vmem, ⟨24, _⟩ => ⟨S1x32x64x128, .f32⟩
  | .local _ .vmem, ⟨25, _⟩ => ⟨S1x32x64x128, .f32⟩
  | .local _ .vmem, ⟨26, _⟩ => ⟨S1x32x64x128, .f32⟩
  | .local _ .vmem, ⟨27, _⟩ => ⟨S1x32x64x128, .f32⟩
  | .local _ .vmem, ⟨28, _⟩ => ⟨S1x32x64x128, .f32⟩
  | .local _ .vmem, ⟨29, _⟩ => ⟨S1x32x64x128, .f32⟩
  | .local _ .vmem, ⟨30, _⟩ => ⟨S1x32x64x128, .f32⟩
  | .local _ .vmem, ⟨31, _⟩ => ⟨S1x32x64x128, .f32⟩
  | .local _ .vmem, ⟨32, _⟩ => ⟨S1x32x64x128, .f32⟩
  | .local _ .vmem, ⟨33, _⟩ => ⟨S1x32x64x128, .f32⟩
  | .local _ .vmem, ⟨34, _⟩ => ⟨S1x256x128, .f32⟩
  | .local _ .vmem, ⟨35, _⟩ => ⟨S1x256x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33_0 : Ref sig .tc := ⟨.hbm, 47, rfl⟩
abbrev main_v33_1 : Ref sig .tc := ⟨.hbm, 48, rfl⟩
abbrev main_v33_2 : Ref sig .tc := ⟨.hbm, 49, rfl⟩
abbrev main_v33_3 : Ref sig .tc := ⟨.hbm, 50, rfl⟩
abbrev main_v33_4 : Ref sig .tc := ⟨.hbm, 51, rfl⟩
abbrev main_v33_5 : Ref sig .tc := ⟨.hbm, 52, rfl⟩
abbrev main_v33_6 : Ref sig .tc := ⟨.hbm, 53, rfl⟩
abbrev main_v33_7 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x64x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x64x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x32x64x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x32x64x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x32x64x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x64x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x32x64x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x64x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x32x64x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== ProjRefIdeal.lean ====
abbrev S4x2048x1024 : Shape := ⟨3, ![4, 2048, 1024]⟩
abbrev S2x8x6144 : Shape := ⟨3, ![2, 8, 6144]⟩
abbrev S2x1024 : Shape := ⟨2, ![2, 1024]⟩
abbrev S1x2x6x1024 : Shape := ⟨4, ![1, 2, 6, 1024]⟩
abbrev S1x1024x1024 : Shape := ⟨3, ![1, 1024, 1024]⟩
abbrev S1x2x1024 : Shape := ⟨3, ![1, 2, 1024]⟩
abbrev S1x2x1024x64 : Shape := ⟨4, ![1, 2, 1024, 64]⟩
abbrev S1x2x64x1024 : Shape := ⟨4, ![1, 2, 64, 1024]⟩
abbrev S1x1024x128 : Shape := ⟨3, ![1, 1024, 128]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x2048 : Shape := ⟨2, ![4, 2048]⟩
abbrev S4x2048x1 : Shape := ⟨3, ![4, 2048, 1]⟩
abbrev S1x1024 : Shape := ⟨2, ![1, 1024]⟩
abbrev S1024 : Shape := ⟨1, ![1024]⟩
abbrev S1x1x1024 : Shape := ⟨3, ![1, 1, 1024]⟩
abbrev S4x2047x1024 : Shape := ⟨3, ![4, 2047, 1024]⟩
abbrev S2x6x1024 : Shape := ⟨3, ![2, 6, 1024]⟩
abbrev S1024x1024 : Shape := ⟨2, ![1024, 1024]⟩
abbrev S1024x128 : Shape := ⟨2, ![1024, 128]⟩
abbrev S4x2048x128 : Shape := ⟨3, ![4, 2048, 128]⟩
abbrev S1x1x1024x64 : Shape := ⟨4, ![1, 1, 1024, 64]⟩
abbrev S1024x64 : Shape := ⟨2, ![1024, 64]⟩
abbrev S4x2048x64 : Shape := ⟨3, ![4, 2048, 64]⟩
abbrev S1x1x64x1024 : Shape := ⟨4, ![1, 1, 64, 1024]⟩
abbrev S64x1024 : Shape := ⟨2, ![64, 1024]⟩
abbrev S4x256x8x8x128 : Shape := ⟨5, ![4, 256, 8, 8, 128]⟩
abbrev S4x256x64x128 : Shape := ⟨4, ![4, 256, 64, 128]⟩

abbrev nBuf : Space → Nat
  | .hbm => 282
  | .vmem => 0
  | .smem => 0
  | _ => 0

abbrev hbmTy0_0 (i : Nat) : BufTy := match i % 128 with
  | 0 => ⟨S4x2048x1024, .f32⟩
  | 1 => ⟨S2x8x6144, .f32⟩
  | 2 => ⟨S2x1024, .f32⟩
  | 3 => ⟨S1x2x6x1024, .f32⟩
  | 4 => ⟨S1x1024x1024, .f32⟩
  | 5 => ⟨S1x1024x1024, .f32⟩
  | 6 => ⟨S1x1024x1024, .f32⟩
  | 7 => ⟨S1x2x1024, .f32⟩
  | 8 => ⟨S1x2x1024x64, .f32⟩
  | 9 => ⟨S1x2x64x1024, .f32⟩
  | 10 => ⟨S1x2x1024, .f32⟩
  | 11 => ⟨S1x2x1024x64, .f32⟩
  | 12 => ⟨S1x2x64x1024, .f32⟩
  | 13 => ⟨S1x1024x128, .f32⟩
  | 14 => ⟨S1x4x6144, .f32⟩
  | 15 => ⟨S4x6144, .f32⟩
  | 16 => ⟨S4x1x6144, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x2048x1024, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S_, .f32⟩
  | 31 => ⟨S4x2048x1, .f32⟩
  | 32 => ⟨S4x2048x1, .f32⟩
  | 33 => ⟨S4x2048x1, .f32⟩
  | 34 => ⟨S4x2048x1024, .f32⟩
  | 35 => ⟨S4x2048x1024, .f32⟩
  | 36 => ⟨S1x1024, .f32⟩
  | 37 => ⟨S1024, .f32⟩
  | 38 => ⟨S1x1x1024, .f32⟩
  | 39 => ⟨S4x2048x1024, .f32⟩
  | 40 => ⟨S4x2048x1024, .f32⟩
  | 41 => ⟨S_, .f32⟩
  | 42 => ⟨S4x1x1024, .f32⟩
  | 43 => ⟨S4x1x1024, .f32⟩
  | 44 => ⟨S4x2048x1024, .f32⟩
  | 45 => ⟨S4x2048x1024, .f32⟩
  | 46 => ⟨S4x2048x1024, .f32⟩
  | 47 => ⟨S4x2048x1024, .f32⟩
  | 48 => ⟨S4x2047x1024, .f32⟩
  | 49 => ⟨S_, .i32⟩
  | 50 => ⟨S_, .f32⟩
  | 51 => ⟨S4x2048x1024, .f32⟩
  | 52 => ⟨S4x2047x1024, .f32⟩
  | 53 => ⟨S_, .i32⟩
  | 54 => ⟨S_, .f32⟩
  | 55 => ⟨S4x2048x1024, .f32⟩
  | 56 => ⟨S2x6x1024, .f32⟩
  | 57 => ⟨S4x2048x1024, .f32⟩
  | 58 => ⟨S1x1x1024, .f32⟩
  | 59 => ⟨S1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S1x1x1024, .f32⟩
  | 66 => ⟨S1024, .f32⟩
  | 67 => ⟨S1x1x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S1x1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S1x1x1024, .f32⟩
  | 87 => ⟨S1024, .f32⟩
  | 88 => ⟨S1x1x1024, .f32⟩
  | 89 => ⟨S4x2048x1024, .f32⟩
  | 90 => ⟨S4x2048x1024, .f32⟩
  | 91 => ⟨S4x2048x1024, .f32⟩
  | 92 => ⟨S4x2048x1024, .f32⟩
  | 93 => ⟨S1x1x1024, .f32⟩
  | 94 => ⟨S1024, .f32⟩
  | 95 => ⟨S1x1x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S1x1x1024, .f32⟩
  | 101 => ⟨S1024, .f32⟩
  | 102 => ⟨S1x1x1024, .f32⟩
  | 103 => ⟨S4x2048x1024, .f32⟩
  | 104 => ⟨S4x2048x1024, .f32⟩
  | 105 => ⟨S4x2048x1024, .f32⟩
  | 106 => ⟨S4x2048x1024, .f32⟩
  | 107 => ⟨S1x1x1024, .f32⟩
  | 108 => ⟨S1024, .f32⟩
  | 109 => ⟨S1x1x1024, .f32⟩
  | 110 => ⟨S4x2048x1024, .f32⟩
  | 111 => ⟨S4x2048x1024, .f32⟩
  | 112 => ⟨S4x2048x1024, .f32⟩
  | 113 => ⟨S4x2048x1024, .f32⟩
  | 114 => ⟨S1x1x1024, .f32⟩
  | 115 => ⟨S1024, .f32⟩
  | 116 => ⟨S1x1x1024, .f32⟩
  | 117 => ⟨S4x2048x1024, .f32⟩
  | 118 => ⟨S4x2048x1024, .f32⟩
  | 119 => ⟨S4x2048x1024, .f32⟩
  | 120 => ⟨S4x2048x1024, .f32⟩
  | 121 => ⟨S1x1x1024, .f32⟩
  | 122 => ⟨S1024, .f32⟩
  | 123 => ⟨S1x1x1024, .f32⟩
  | 124 => ⟨S4x2048x1024, .f32⟩
  | 125 => ⟨S4x2048x1024, .f32⟩
  | 126 => ⟨S4x2048x1024, .f32⟩
  | 127 => ⟨S4x2048x1024, .f32⟩
  | _ => ⟨S4x2048x1024, .f32⟩

abbrev hbmTy0_1 (i : Nat) : BufTy := match i % 128 with
  | 0 => ⟨S1x1x1024, .f32⟩
  | 1 => ⟨S1024, .f32⟩
  | 2 => ⟨S1x1x1024, .f32⟩
  | 3 => ⟨S4x2048x1024, .f32⟩
  | 4 => ⟨S4x2048x1024, .f32⟩
  | 5 => ⟨S4x2048x1024, .f32⟩
  | 6 => ⟨S4x2048x1024, .f32⟩
  | 7 => ⟨S1x1x1024, .f32⟩
  | 8 => ⟨S1024, .f32⟩
  | 9 => ⟨S1x1x1024, .f32⟩
  | 10 => ⟨S4x2048x1024, .f32⟩
  | 11 => ⟨S4x2048x1024, .f32⟩
  | 12 => ⟨S4x2048x1024, .f32⟩
  | 13 => ⟨S1024x1024, .f32⟩
  | 14 => ⟨S4x2048x1024, .f32⟩
  | 15 => ⟨S1024x1024, .f32⟩
  | 16 => ⟨S4x2048x1024, .f32⟩
  | 17 => ⟨S1024x1024, .f32⟩
  | 18 => ⟨S4x2048x1024, .f32⟩
  | 19 => ⟨S1024x128, .f32⟩
  | 20 => ⟨S4x2048x128, .f32⟩
  | 21 => ⟨S4x2048x128, .f32⟩
  | 22 => ⟨S4x2048x128, .f32⟩
  | 23 => ⟨S_, .f32⟩
  | 24 => ⟨S4x2048x128, .f32⟩
  | 25 => ⟨S4x2048x128, .f32⟩
  | 26 => ⟨S_, .f32⟩
  | 27 => ⟨S4x2048x128, .f32⟩
  | 28 => ⟨S4x2048x128, .f32⟩
  | 29 => ⟨S1x1x1024, .f32⟩
  | 30 => ⟨S1024, .f32⟩
  | 31 => ⟨S1x1x1024x64, .f32⟩
  | 32 => ⟨S1024x64, .f32⟩
  | 33 => ⟨S4x2048x64, .f32⟩
  | 34 => ⟨S4x2048x64, .f32⟩
  | 35 => ⟨S1x1x64x1024, .f32⟩
  | 36 => ⟨S64x1024, .f32⟩
  | 37 => ⟨S4x2048x1024, .f32⟩
  | 38 => ⟨S1x1x1024, .f32⟩
  | 39 => ⟨S4x2048x1024, .f32⟩
  | 40 => ⟨S4x2048x1024, .f32⟩
  | 41 => ⟨S1x1x1024, .f32⟩
  | 42 => ⟨S1024, .f32⟩
  | 43 => ⟨S1x1x1024x64, .f32⟩
  | 44 => ⟨S1024x64, .f32⟩
  | 45 => ⟨S4x2048x64, .f32⟩
  | 46 => ⟨S4x2048x64, .f32⟩
  | 47 => ⟨S1x1x64x1024, .f32⟩
  | 48 => ⟨S64x1024, .f32⟩
  | 49 => ⟨S4x2048x1024, .f32⟩
  | 50 => ⟨S1x1x1024, .f32⟩
  | 51 => ⟨S4x2048x1024, .f32⟩
  | 52 => ⟨S4x2048x1024, .f32⟩
  | 53 => ⟨S4x2048x1024, .f32⟩
  | 54 => ⟨S_, .f32⟩
  | 55 => ⟨S4x2048x1024, .f32⟩
  | 56 => ⟨S4x2048x1024, .f32⟩
  | 57 => ⟨S4x2048x1024, .f32⟩
  | 58 => ⟨S4x2048x1024, .f32⟩
  | 59 => ⟨S4x2048x1024, .i1⟩
  | 60 => ⟨S4x2048x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S4x2048x1024, .f32⟩
  | 67 => ⟨S4x2048x1024, .f32⟩
  | 68 => ⟨S4x2048x1024, .f32⟩
  | 69 => ⟨S4x2048x1024, .f32⟩
  | 70 => ⟨S_, .f32⟩
  | 71 => ⟨S4x2048x1024, .f32⟩
  | 72 => ⟨S4x2048x1024, .f32⟩
  | 73 => ⟨S4x2048x1024, .f32⟩
  | 74 => ⟨S4x2048x1024, .f32⟩
  | 75 => ⟨S_, .f32⟩
  | 76 => ⟨S4x2048x1024, .f32⟩
  | 77 => ⟨S4x2048x1024, .f32⟩
  | 78 => ⟨S4x2048x1024, .f32⟩
  | 79 => ⟨S4x2048x1024, .f32⟩
  | 80 => ⟨S4x2048x1024, .i1⟩
  | 81 => ⟨S4x2048x1024, .f32⟩
  | 82 => ⟨S4x2048x1024, .f32⟩
  | 83 => ⟨S4x2048x1024, .f32⟩
  | 84 => ⟨S4x2048x1024, .f32⟩
  | 85 => ⟨S4x2048x1024, .f32⟩
  | 86 => ⟨S4x2048x1024, .f32⟩
  | 87 => ⟨S4x2048x1024, .f32⟩
  | 88 => ⟨S4x2048x1024, .f32⟩
  | 89 => ⟨S4x2048x1024, .f32⟩
  | 90 => ⟨S4x2048x1024, .f32⟩
  | 91 => ⟨S_, .f32⟩
  | 92 => ⟨S4x2048x1024, .f32⟩
  | 93 => ⟨S4x2048x1024, .f32⟩
  | 94 => ⟨S4x2048x1024, .f32⟩
  | 95 => ⟨S1x1x1024, .f32⟩
  | 96 => ⟨S1024, .f32⟩
  | 97 => ⟨S1x1x1024x64, .f32⟩
  | 98 => ⟨S1024x64, .f32⟩
  | 99 => ⟨S4x2048x64, .f32⟩
  | 100 => ⟨S1x1x64x1024, .f32⟩
  | 101 => ⟨S64x1024, .f32⟩
  | 102 => ⟨S4x2048x1024, .f32⟩
  | 103 => ⟨S1x1x1024, .f32⟩
  | 104 => ⟨S4x2048x1024, .f32⟩
  | 105 => ⟨S4x2048x1024, .f32⟩
  | 106 => ⟨S4x2048x1024, .f32⟩
  | 107 => ⟨S4x2048x1024, .f32⟩
  | 108 => ⟨S_, .f32⟩
  | 109 => ⟨S4x2048x1024, .f32⟩
  | 110 => ⟨S4x2048x1024, .f32⟩
  | 111 => ⟨S_, .f32⟩
  | 112 => ⟨S4x2048x1024, .f32⟩
  | 113 => ⟨S4x2048x1024, .f32⟩
  | 114 => ⟨S1x1x1024, .f32⟩
  | 115 => ⟨S1024, .f32⟩
  | 116 => ⟨S1x1x1024x64, .f32⟩
  | 117 => ⟨S1024x64, .f32⟩
  | 118 => ⟨S4x2048x64, .f32⟩
  | 119 => ⟨S1x1x64x1024, .f32⟩
  | 120 => ⟨S64x1024, .f32⟩
  | 121 => ⟨S4x2048x1024, .f32⟩
  | 122 => ⟨S1x1x1024, .f32⟩
  | 123 => ⟨S4x2048x1024, .f32⟩
  | 124 => ⟨S4x2048x1024, .f32⟩
  | 125 => ⟨S4x2048x1024, .f32⟩
  | 126 => ⟨S4x2048x1024, .f32⟩
  | 127 => ⟨S_, .f32⟩
  | _ => ⟨S4x2048x1024, .f32⟩

abbrev hbmTy0_2 (i : Nat) : BufTy := match i % 128 with
  | 0 => ⟨S4x2048x1024, .f32⟩
  | 1 => ⟨S4x2048x1024, .f32⟩
  | 2 => ⟨S_, .f32⟩
  | 3 => ⟨S4x2048x1024, .f32⟩
  | 4 => ⟨S4x2048x1024, .f32⟩
  | 5 => ⟨S4x256x8x8x128, .f32⟩
  | 6 => ⟨S4x256x8x8x128, .f32⟩
  | 7 => ⟨S4x256x64x128, .f32⟩
  | 8 => ⟨S4x256x8x8x128, .f32⟩
  | 9 => ⟨S4x256x8x8x128, .f32⟩
  | 10 => ⟨S4x256x64x128, .f32⟩
  | 11 => ⟨S4x256x8x8x128, .f32⟩
  | 12 => ⟨S4x256x8x8x128, .f32⟩
  | 13 => ⟨S4x256x64x128, .f32⟩
  | 14 => ⟨S4x256x8x8x128, .f32⟩
  | 15 => ⟨S4x256x8x8x128, .f32⟩
  | 16 => ⟨S4x256x64x128, .f32⟩
  | 17 => ⟨S4x256x8x8x128, .f32⟩
  | 18 => ⟨S4x256x8x8x128, .f32⟩
  | 19 => ⟨S4x256x64x128, .f32⟩
  | 20 => ⟨S4x256x8x8x128, .f32⟩
  | 21 => ⟨S4x256x8x8x128, .f32⟩
  | 22 => ⟨S4x256x64x128, .f32⟩
  | 23 => ⟨S4x256x8x8x128, .f32⟩
  | 24 => ⟨S4x256x8x8x128, .f32⟩
  | 25 => ⟨S4x256x64x128, .f32⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_c_3 : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_cst_4 : Ref sig .tc := ⟨.hbm, 151, rfl⟩
abbrev main_v129 : Ref sig .tc := ⟨.hbm, 152, rfl⟩
abbrev main_v130 : Ref sig .tc := ⟨.hbm, 153, rfl⟩
abbrev main_cst_5 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_call2_cst : Ref sig .tc := ⟨.hbm, 182, rfl⟩
abbrev main_call2_v0 : Ref sig .tc := ⟨.hbm, 183, rfl⟩
abbrev main_call2_v1 : Ref sig .tc := ⟨.hbm, 184, rfl⟩
abbrev main_call2_v2 : Ref sig .tc := ⟨.hbm, 185, rfl⟩
abbrev main_call2_v3 : Ref sig .tc := ⟨.hbm, 186, rfl⟩
abbrev main_call2_v4 : Ref sig .tc := ⟨.hbm, 187, rfl⟩
abbrev main_call2_v5 : Ref sig .tc := ⟨.hbm, 188, rfl⟩
abbrev main_call2_v6 : Ref sig .tc := ⟨.hbm, 189, rfl⟩
abbrev main_call2_v7 : Ref sig .tc := ⟨.hbm, 190, rfl⟩
abbrev main_call2_v8 : Ref sig .tc := ⟨.hbm, 191, rfl⟩
abbrev main_call2_v9 : Ref sig .tc := ⟨.hbm, 192, rfl⟩
abbrev main_call2_v10 : Ref sig .tc := ⟨.hbm, 193, rfl⟩
abbrev main_call2_v11 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_cst_6 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_call3_cst : Ref sig .tc := ⟨.hbm, 203, rfl⟩
abbrev main_call3_v0 : Ref sig .tc := ⟨.hbm, 204, rfl⟩
abbrev main_call3_v1 : Ref sig .tc := ⟨.hbm, 205, rfl⟩
abbrev main_call3_v2 : Ref sig .tc := ⟨.hbm, 206, rfl⟩
abbrev main_call3_v3 : Ref sig .tc := ⟨.hbm, 207, rfl⟩
abbrev main_call3_v4 : Ref sig .tc := ⟨.hbm, 208, rfl⟩
abbrev main_call3_v5 : Ref sig .tc := ⟨.hbm, 209, rfl⟩
abbrev main_call3_v6 : Ref sig .tc := ⟨.hbm, 210, rfl⟩
abbrev main_call3_v7 : Ref sig .tc := ⟨.hbm, 211, rfl⟩
abbrev main_call3_v8 : Ref sig .tc := ⟨.hbm, 212, rfl⟩
abbrev main_call3_v9 : Ref sig .tc := ⟨.hbm, 213, rfl⟩
abbrev main_call3_v10 : Ref sig .tc := ⟨.hbm, 214, rfl⟩
abbrev main_call3_v11 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_7 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_cst_8 : Ref sig .tc := ⟨.hbm, 236, rfl⟩
abbrev main_v184 : Ref sig .tc := ⟨.hbm, 237, rfl⟩
abbrev main_v185 : Ref sig .tc := ⟨.hbm, 238, rfl⟩
abbrev main_cst_9 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_10 : Ref sig .tc := ⟨.hbm, 255, rfl⟩
abbrev main_v201 : Ref sig .tc := ⟨.hbm, 256, rfl⟩
abbrev main_v202 : Ref sig .tc := ⟨.hbm, 257, rfl⟩
abbrev main_cst_11 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩

abbrev nD : Nat := 1
abbrev τ : Topo := Topo.v7x

variable {F : FTy → Type} [FloatOps F]
-- ==== Proof.SguSpec.lean ====
/- The spatial gating layer over the extended reals, written once in plain indices. The kernel's side
   (SguChunk, SguValue) and the reference's side (SguRefValue) both arrive at `Sgu.out` here. -/
module

public import Idealize.ShloMosaic.Lib.Pointwise
public import Idealize.ShloMosaic.PureOps.Ideal.Laws

@[expose] public section

noncomputable section

namespace Cert.Spec

open Idealize.ShloMosaic

/-- The root-mean-square norm of a row with weight `g`, then the modulation `(1 + sc) * · + sh`. -/
def normMod (x g sc sh : Fin 1024 → EReal) (k : Fin 1024) : EReal :=
  x k * Ideal.rsqrt (Ideal.div (∑ l, x l * x l) (Ideal.ofBits .f32 0x44800000#32) + Ideal.ofBits .f32 0x358637BD#32)
    * g k * (1 + sc k) + sh k

/-- The exact gelu, in terms of the error function. -/
def gelu (z : EReal) : EReal :=
  Ideal.ofBits .f32 0x3F000000#32 * z * (1 + Ideal.erf (z * Ideal.ofBits .f32 0x3F3504F3#32))

/-- The projected row, column `n`, after the gelu. -/
def hid (x g sc sh : Fin 1024 → EReal) (W : Fin 1024 → Fin 4096 → EReal) (n : Fin 4096) : EReal :=
  gelu (∑ k, normMod x g sc sh k * W k n)

/-- The mean of a row of 2048. -/
def mean (v : Fin 2048 → EReal) : EReal := Ideal.div (∑ l, v l) (Ideal.ofBits .f32 0x45000000#32)

/-- The layer norm of a row of 2048. -/
def lnorm (v g b : Fin 2048 → EReal) (j : Fin 2048) : EReal :=
  (v j - mean v) * Ideal.rsqrt (mean (fun l => (v l - mean v) * (v l - mean v)) + Ideal.ofBits .f32 0x3727C5AC#32) * g j + b j

/-- First half of the hidden row. -/
def lo (j : Fin 2048) : Fin 4096 := ⟨j, by omega⟩
/-- Second half of the hidden row. -/
def hi (j : Fin 2048) : Fin 4096 := ⟨2048 + j, by omega⟩
/-- The channel group (of 256 channels) a channel belongs to. -/
def grp (j : Fin 2048) : Fin 8 := ⟨j / 256, by omega⟩

/-- The gate of row `p`, channel `j`: the normed second halves of the chunk's 128 rows, mixed by the group's matrix. -/
def gate (h : Fin 128 → Fin 4096 → EReal) (lg lb : Fin 2048 → EReal) (ws : Fin 8 → Fin 128 → Fin 128 → EReal)
    (bs : Fin 8 → Fin 128 → EReal) (p : Fin 128) (j : Fin 2048) : EReal :=
  (∑ q, ws (grp j) p q * lnorm (fun l => h q (hi l)) lg lb j) + bs (grp j) p

/-- The layer's output for a chunk of 128 rows at row `p`, column `n`. -/
def out (x : Fin 128 → Fin 1024 → EReal) (g sc sh gt : Fin 1024 → EReal) (W : Fin 1024 → Fin 4096 → EReal)
    (lg lb : Fin 2048 → EReal) (ws : Fin 8 → Fin 128 → Fin 128 → EReal) (bs : Fin 8 → Fin 128 → EReal)
    (Wo : Fin 2048 → Fin 1024 → EReal) (p : Fin 128) (n : Fin 1024) : EReal :=
  x p n + gt n * ∑ j, hid (x p) g sc sh W (lo j) * gate (fun q => hid (x q) g sc sh W) lg lb ws bs p j * Wo j n

end Cert.Spec
-- ==== Proof.SguChunk.lean ====
/- The spatial gating kernel's arithmetic on one chunk of 128 rows. The body repeats it for four chunks, cut at
   different places; each of the four stored values is `chunk`, and `chunk_at` reads it at an index. -/
module

public import proofs.«01_k».proof.Proof.SguSpec
public import proofs.«01_k».proof.Proof.Gen.SguIdeal.Skeleton

@[expose] public section

set_option maxRecDepth 16384

noncomputable section

namespace Cert.SguIdeal.Chunk

open Cert.SguIdeal Cert.SguIdeal.Gen Idealize.ShloMosaic Idealize.ShloMosaic.TcCoe Idealize.SL.Sem
open Cert.Spec

variable (x : Vec Ideal S1x128x1024 .f32) (sh sc gt : Vec Ideal S1x1x1024 .f32) (g : Vec Ideal S1x1024 .f32)
  (W : Vec Ideal S1024x4096 .bf16) (lg lb : Vec Ideal S1x2048 .f32)
  (w0 w1 w2 w3 w4 w5 w6 w7 : Vec Ideal S1x128x128 .bf16) (bf : Vec Ideal S128x2048 .f32) (Wo : Vec Ideal S2048x1024 .bf16)

/-- The chunk's projected rows, before the gelu. -/
def proj : FVec Ideal S128x4096 .f32 :=
  k0_pay11 (k0_pay1 sh) (k0_pay2 sc) (k0_pay5 x) g W

/-- What the body stores for one chunk. -/
def chunk : FVec Ideal S1x128x1024 .f32 :=
  k0_pay30 (k0_pay3 gt) (k0_pay5 x) (k0_pay25 (proj x sh sc g W))
    (k0_pay28 (k0_pay26 (proj x sh sc g W) lg lb) (k0_pay27 (proj x sh sc g W) lg lb w0) w1 w2 w3 w4 w5 w6 w7)
    (k0_pay29 bf) Wo

theorem proj_at (p : Fin 128) (n : Fin 4096) :
    proj x sh sc g W (ix2 p n) = ∑ k : Fin 1024, normMod (fun k => x (ix3 0 p k)) (fun k => g (ix2 0 k))
      (fun k => sc (ix3 0 0 k)) (fun k => sh (ix3 0 0 k)) k * W (ix2 k n) := by
  pointwise [proj, k0_pay11, k0_pay1, k0_pay2, k0_pay5, normMod]

theorem gelu_at (z : FVec Ideal S128x4096 .f32) (p : Fin 128) (n : Fin 4096) :
    k0_pay24 z (ix2 p n) = gelu (z (ix2 p n)) := by
  pointwise [k0_pay24, gelu]
  rfl

theorem first_at (z : FVec Ideal S128x4096 .f32) (p : Fin 128) (j : Fin 2048) :
    k0_pay25 z (ix2 p j) = gelu (z (ix2 p (lo j))) := by
  pointwise [k0_pay25, k0_pay24, gelu, lo]
  rfl

theorem norm_at (z : FVec Ideal S128x4096 .f32) (p : Fin 128) (j : Fin 2048) :
    k0_pay26 z lg lb (ix2 p j) = lnorm (fun l => gelu (z (ix2 p (hi l)))) (fun l => lg (ix2 0 l)) (fun l => lb (ix2 0 l)) j := by
  pointwise [k0_pay26, gelu_at, lnorm, mean, hi]

theorem mix_at (v : FVec Ideal S128x2048 .bf16) (z : FVec Ideal S128x4096 .f32) (h : k0_pay26 z lg lb = v) (ws : Fin 8 → Fin 128 → Fin 128 → EReal)
    (h0 : ∀ p q, ws 0 p q = w0 (ix3 0 p q)) (h1 : ∀ p q, ws 1 p q = w1 (ix3 0 p q)) (h2 : ∀ p q, ws 2 p q = w2 (ix3 0 p q))
    (h3 : ∀ p q, ws 3 p q = w3 (ix3 0 p q)) (h4 : ∀ p q, ws 4 p q = w4 (ix3 0 p q)) (h5 : ∀ p q, ws 5 p q = w5 (ix3 0 p q))
    (h6 : ∀ p q, ws 6 p q = w6 (ix3 0 p q)) (h7 : ∀ p q, ws 7 p q = w7 (ix3 0 p q)) (p : Fin 128) (j : Fin 2048) :
    k0_pay28 v (k0_pay27 z lg lb w0) w1 w2 w3 w4 w5 w6 w7 (ix2 p j) = ∑ q : Fin 128, ws (grp j) p q * v (ix2 q j) := by
  have hg : ∀ (i : Fin 8) (e : ℕ) (he : e < 2048), e = (j : ℕ) → (j : ℕ) / 256 = i → ∀ (w : Vec Ideal S1x128x128 .bf16),
      (∀ p q, ws i p q = w (ix3 0 p q)) →
      ∑ q : Fin 128, w (ix3 0 p q) * v (ix2 q ⟨e, he⟩) = ∑ q : Fin 128, ws (grp j) p q * v (ix2 q j) := by
    intro i e he hej hi w hw
    subst hej
    have : grp j = i := Fin.ext hi
    simp only [this, hw]
  pointwise [k0_pay28, k0_pay27, h]
  by_cases c0 : (j : ℕ) < 256
  · rw [dif_pos c0]; exact hg 0 _ _ rfl (by show (j : ℕ) / 256 = 0; omega) _ h0
  rw [dif_neg c0]
  by_cases c1 : (j : ℕ) - 256 < 256
  · rw [dif_pos c1]; exact hg 1 _ _ (by omega) (by show (j : ℕ) / 256 = 1; omega) _ h1
  rw [dif_neg c1]
  by_cases c2 : (j : ℕ) - 256 - 256 < 256
  · rw [dif_pos c2]; exact hg 2 _ _ (by omega) (by show (j : ℕ) / 256 = 2; omega) _ h2
  rw [dif_neg c2]
  by_cases c3 : (j : ℕ) - 256 - 256 - 256 < 256
  · rw [dif_pos c3]; exact hg 3 _ _ (by omega) (by show (j : ℕ) / 256 = 3; omega) _ h3
  rw [dif_neg c3]
  by_cases c4 : (j : ℕ) - 256 - 256 - 256 - 256 < 256
  · rw [dif_pos c4]; exact hg 4 _ _ (by omega) (by show (j : ℕ) / 256 = 4; omega) _ h4
  rw [dif_neg c4]
  by_cases c5 : (j : ℕ) - 256 - 256 - 256 - 256 - 256 < 256
  · rw [dif_pos c5]; exact hg 5 _ _ (by omega) (by show (j : ℕ) / 256 = 5; omega) _ h5
  rw [dif_neg c5]
  by_cases c6 : (j : ℕ) - 256 - 256 - 256 - 256 - 256 - 256 < 256
  · rw [dif_pos c6]; exact hg 6 _ _ (by omega) (by show (j : ℕ) / 256 = 6; omega) _ h6
  rw [dif_neg c6]
  exact hg 7 _ _ (by omega) (by have := j.isLt; show (j : ℕ) / 256 = 7; omega) _ h7

theorem chunk_at (ws : Fin 8 → Fin 128 → Fin 128 → EReal) (bs : Fin 8 → Fin 128 → EReal)
    (h0 : ∀ p q, ws 0 p q = w0 (ix3 0 p q)) (h1 : ∀ p q, ws 1 p q = w1 (ix3 0 p q)) (h2 : ∀ p q, ws 2 p q = w2 (ix3 0 p q))
    (h3 : ∀ p q, ws 3 p q = w3 (ix3 0 p q)) (h4 : ∀ p q, ws 4 p q = w4 (ix3 0 p q)) (h5 : ∀ p q, ws 5 p q = w5 (ix3 0 p q))
    (h6 : ∀ p q, ws 6 p q = w6 (ix3 0 p q)) (h7 : ∀ p q, ws 7 p q = w7 (ix3 0 p q))
    (hb : ∀ (p : Fin 128) (j : Fin 2048), bf (ix2 p j) = bs (grp j) p) (p : Fin 128) (n : Fin 1024) :
    chunk x sh sc gt g W lg lb w0 w1 w2 w3 w4 w5 w6 w7 bf Wo (ix3 0 p n)
      = out (fun q k => x (ix3 0 q k)) (fun k => g (ix2 0 k)) (fun k => sc (ix3 0 0 k)) (fun k => sh (ix3 0 0 k))
          (fun k => gt (ix3 0 0 k)) (fun k n => W (ix2 k n)) (fun l => lg (ix2 0 l)) (fun l => lb (ix2 0 l)) ws bs
          (fun j n => Wo (ix2 j n)) p n := by
  pointwise [chunk, k0_pay30, k0_pay29, k0_pay3, first_at, proj_at, hb]
  simp only [mix_at lg lb w0 w1 w2 w3 w4 w5 w6 w7 _ _ rfl ws h0 h1 h2 h3 h4 h5 h6 h7, norm_at, proj_at]
  pointwise [k0_pay5]
  rfl

/-- The chunk's stored value as the first chunk's pieces cut it. -/
theorem chunk_first (z : FVec Ideal S128x4096 .f32) (hz : z = k0_pay16 (k0_pay10 (k0_pay1 sh) (k0_pay8 x g) (k0_pay9 sc) W)) :
    k0_pay23 (k0_pay22 (k0_pay3 gt) (k0_pay4 x) (k0_pay17 z) (k0_pay18 z lg lb) (k0_pay19 z lg lb w0) (k0_pay20 z lg lb w1)
      (k0_pay21 z lg lb w2) w3 w4 w5 w6 w7 bf Wo)
    = chunk x sh sc gt g W lg lb w0 w1 w2 w3 w4 w5 w6 w7 bf Wo := by
  subst hz; rfl

/-- … as the third chunk's pieces cut it. -/
theorem chunk_third (z : FVec Ideal S128x4096 .f32) (v : FVec Ideal S128x2048 .f32)
    (hz : z = k0_pay14 (k0_pay1 sh) (k0_pay2 sc) (k0_pay12 g) (k0_pay13 (k0_pay6 x)) W) (hv : v = k0_pay33 z lg) :
    k0_pay43 (k0_pay3 gt) (k0_pay6 x) (k0_pay32 z) (k0_pay34 v lb) (k0_pay35 v lb w0) (k0_pay36 v lb w1) (k0_pay37 v lb w2)
      (k0_pay38 v lb w3) (k0_pay39 v lb w4) (k0_pay40 v lb w5) (k0_pay41 w6) (k0_pay42 v lb) w7 bf Wo
    = chunk x sh sc gt g W lg lb w0 w1 w2 w3 w4 w5 w6 w7 bf Wo := by
  subst hv; subst hz; rfl

/-- … as the fourth chunk's pieces cut it. -/
theorem chunk_fourth (z : FVec Ideal S128x4096 .f32) (v : FVec Ideal S128x2048 .f32) (s : FVec Ideal S128x1 .f32)
    (hz : z = k0_pay15 (k0_pay1 sh) (k0_pay2 sc) (k0_pay7 x) g W) (hv : v = k0_pay46 z) (hs : s = k0_pay47 z) :
    k0_pay55 (k0_pay3 gt) (k0_pay7 x) (k0_pay45 z) (k0_pay48 v s (Scalar.ofBits .f32 0x45000000#32) lg lb)
      (k0_pay49 v s (Scalar.ofBits .f32 0x45000000#32) lg lb w0) (k0_pay50 v s (Scalar.ofBits .f32 0x45000000#32) lg lb w1)
      (k0_pay51 v s (Scalar.ofBits .f32 0x45000000#32) lg lb w2) (k0_pay52 v s (Scalar.ofBits .f32 0x45000000#32) lg lb w3)
      (k0_pay53 w4) (k0_pay54 v s (Scalar.ofBits .f32 0x45000000#32) lg lb) (constant S128x256 .f32 0x00000000#32) w5 w6 w7 bf Wo
    = chunk x sh sc gt g W lg lb w0 w1 w2 w3 w4 w5 w6 w7 bf Wo := by
  subst hs; subst hv; subst hz; rfl

end Cert.SguIdeal.Chunk
-- ==== Proof.SguRefValue.lean ====
/- The spatial gating reference read at an index: its result is `Spec.out` of the arguments' rows. -/
module

public import proofs.«01_k».proof.Proof.SguSpec
public import proofs.«01_k».proof.Proof.Gen.SguRefIdeal.Read

@[expose] public section

set_option maxRecDepth 16384

noncomputable section

namespace Cert.SguRefIdeal.RefValue

open Cert.SguRefIdeal Cert.SguRefIdeal.Gen Cert.SguRefIdeal.Read Idealize.ShloMosaic Idealize.ShloMosaic.TcCoe Idealize.SL.Sem
open Cert.Spec

variable (x0 : FVec Ideal S4x2048x1024 .f32) (x1 : FVec Ideal S2x8x6144 .f32) (x2 : FVec Ideal S2x1024 .f32)
  (x3 : FVec Ideal S1x1024x4096 .f32) (x4 x5 : FVec Ideal S1x2048 .f32) (x6 : FVec Ideal S1x8x128x128 .f32)
  (x7 : FVec Ideal S1x8x128 .f32) (x8 : FVec Ideal S1x2048x1024 .f32)

/-- Section `s` (of 1024) of the sample's modulation row. -/
def md (s : Fin 6) (b : Fin 4) (k : Fin 1024) : EReal := x1 (ix3 1 ⟨1 + b, by omega⟩ ⟨1024 * s + k, by omega⟩)

theorem mod_at (b : Fin 4) (z : Fin 1) (k : Fin 6144) :
    val_main_v2 (F := Ideal) x1 (ix3 b z k) = x1 (ix3 1 ⟨1 + b, by omega⟩ k) := by
  pointwise [val_main_v2, val_main_v1, val_main_v0]

theorem norm_at (b : Fin 4) (t : Fin 2048) (k : Fin 1024) :
    val_main_v29 (F := Ideal) x0 x1 x2 (ix3 b t k) = normMod (fun k => x0 (ix3 b t k)) (fun k => x2 (ix2 1 k))
      (md x1 1 b) (md x1 0 b) k := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v4, val_main_v3, mod_at, normMod, md,
    val_main_cst, val_main_cst_0, val_main_cst_1, val_main_cst_2]

theorem hid_at (b : Fin 4) (t : Fin 2048) (n : Fin 4096) :
    val_main_v38 (F := Ideal) x0 x1 x2 x3 (ix3 b t n) = hid (fun k => x0 (ix3 b t k)) (fun k => x2 (ix2 1 k))
      (md x1 1 b) (md x1 0 b) (fun k n => x3 (ix3 0 k n)) n := by
  pointwise [val_main_v38, val_main_v37, val_main_v36, val_main_v35, val_main_v34, val_main_v33, val_main_v32, val_main_v31, val_main_v30,
    norm_at, hid, gelu, val_main_cst_3, val_main_cst_4]
  rw [neg_mul, Ideal.erfc_neg]

theorem ln_at (b : Fin 4) (t : Fin 2048) (j : Fin 2048) :
    val_main_v66 (F := Ideal) x0 x1 x2 x3 x4 x5 (ix3 b t j) = lnorm (fun l => hid (fun k => x0 (ix3 b t k)) (fun k => x2 (ix2 1 k))
      (md x1 1 b) (md x1 0 b) (fun k n => x3 (ix3 0 k n)) (hi l)) (fun l => x4 (ix2 0 l)) (fun l => x5 (ix2 0 l)) j := by
  pointwise [val_main_v66, val_main_v65, val_main_v64, val_main_v63, val_main_v62, val_main_v61, val_main_v60, val_main_v59, val_main_v58,
    val_main_v57, val_main_v56, val_main_v55, val_main_v54, val_main_v53, val_main_v52, val_main_v51, val_main_v50, val_main_v49, val_main_v48,
    val_main_v47, val_main_v46, val_main_v45, val_main_v44, val_main_v43, val_main_v42, val_main_v41, val_main_v40, hid_at, lnorm, mean, hi,
    val_main_cst_5, val_main_cst_6, val_main_cst_7, val_main_cst_8, val_main_cst_9]

theorem gate_at (b : Fin 4) (t : Fin 2048) (j : Fin 2048) :
    val_main_v77 (F := Ideal) x0 x1 x2 x3 x4 x5 x6 x7 (ix3 b t j) =
      (∑ q : Fin 128, x6 (ix4 0 (grp j) ⟨t % 128, by omega⟩ q) * val_main_v66 (F := Ideal) x0 x1 x2 x3 x4 x5 (ix3 b ⟨128 * (t / 128) + q, by omega⟩ j))
        + x7 (ix3 0 (grp j) ⟨t % 128, by omega⟩) := by
  pointwise [val_main_v77, val_main_v76, val_main_v75, val_main_v74, val_main_v73, val_main_v72, val_main_v71, val_main_v70, val_main_v69,
    val_main_v68, val_main_v67, grp]
  congr 1
  refine Finset.sum_congr rfl fun q _ => ?_
  rw [mul_comm]
  congr 4
  omega

theorem out_at (b : Fin 4) (t : Fin 2048) (n : Fin 1024) :
    val_main_v83 (F := Ideal) x0 x1 x2 x3 x4 x5 x6 x7 x8 (ix3 b t n) =
      out (fun q k => x0 (ix3 b ⟨128 * (t / 128) + q, by omega⟩ k)) (fun k => x2 (ix2 1 k)) (md x1 1 b) (md x1 0 b) (md x1 2 b)
        (fun k n => x3 (ix3 0 k n)) (fun l => x4 (ix2 0 l)) (fun l => x5 (ix2 0 l)) (fun g p q => x6 (ix4 0 g p q))
        (fun g p => x7 (ix3 0 g p)) (fun j n => x8 (ix3 0 j n)) ⟨t % 128, by omega⟩ n := by
  have ht : (⟨128 * (t / 128) + t % 128, by omega⟩ : Fin 2048) = t := Fin.ext (by show 128 * ((t : ℕ) / 128) + (t : ℕ) % 128 = t; omega)
  pointwise [val_main_v83, val_main_v82, val_main_v81, val_main_v80, val_main_v79, val_main_v78, val_main_v39, val_main_v5, mod_at, gate_at, ln_at, hid_at]
  unfold out gate
  simp only [ht]
  rfl

end Cert.SguRefIdeal.RefValue
-- ==== Proof.SguValue.lean ====
/- The spatial gating kernel's result array is the reference's: block by block, four chunks of 128 rows each. -/
module

public import proofs.«01_k».proof.Proof.SguChunk
public import proofs.«01_k».proof.Proof.SguRefValue
public import proofs.«01_k».proof.Proof.Gen.SguIdeal.Value
public import Idealize.ShloMosaic.Lib.Pipeline.ValueKit
public import Idealize.ShloMosaic.Lib.Claim

@[expose] public section

set_option maxRecDepth 16384

noncomputable section

namespace Cert.SguIdeal.Final

open Cert.SguIdeal Cert.SguIdeal.Gen Idealize.ShloMosaic Idealize.ShloMosaic.TcCoe Idealize.SL.Sem
open Idealize.ShloMosaic.Pipeline (Dat)
open Cert.Spec Cert.SguIdeal.Chunk

variable (m : (ℓ : Loc nD τ sig) → Buf (Elt Ideal) ℓ)

theorem idx : ∀ t : Fin cfg0.N, win0_0.index t = ![t.val / 4, t.val % 4, 0] ∧ win0_1.index t = ![t.val / 4, 0, 0]
    ∧ win0_2.index t = ![0, 0] ∧ win0_3.index t = ![0, 0] ∧ win0_4.index t = ![0, 0] ∧ win0_5.index t = ![0, 0]
    ∧ win0_6.index t = ![0, 0, 0] ∧ win0_7.index t = ![0, 0] ∧ win0_8.index t = ![0, 0]
    ∧ win0_9.index t = ![t.val / 4, t.val % 4, 0] :=
  (by decide +kernel : ∀ t : Fin grid0.N, _)

/-- The batch a grid point works on. -/
def bat (t : Fin cfg0.N) : Fin 4 := ⟨t.val / 4, by have h : t.val < 16 := lt_of_lt_of_eq t.isLt N_0; omega⟩
/-- The token a row of a grid point's block is. -/
def row (t : Fin cfg0.N) (r : Fin 512) : Fin 2048 := ⟨t.val % 4 * 512 + r, by omega⟩

/-- The reference's result, from the kernel's own arguments. -/
def ref (c : Dev nD) : FVec Ideal S4x2048x1024 .f32 :=
  Cert.SguRefIdeal.Read.val_main_v83 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- One chunk of a block, as a function of the block's windows and the chunk's rows. -/
def blockChunk (c : Dev nD) (t : Fin cfg0.N) (x : Vec Ideal S1x128x1024 .f32) : FVec Ideal S1x128x1024 .f32 :=
  chunk x (View.ld (iblk m c 1 t) r0_0) (View.ld (iblk m c 1 t) r0_1) (View.ld (iblk m c 1 t) r0_2) (View.ld (iblk m c 2 t) r0_7)
    (View.ld (iblk m c 3 t) r0_8) (View.ld (iblk m c 4 t) r0_9) (View.ld (iblk m c 5 t) r0_9) (View.ld (iblk m c 6 t) r0_10)
    (View.ld (iblk m c 6 t) r0_11) (View.ld (iblk m c 6 t) r0_12) (View.ld (iblk m c 6 t) r0_13) (View.ld (iblk m c 6 t) r0_14)
    (View.ld (iblk m c 6 t) r0_15) (View.ld (iblk m c 6 t) r0_16) (View.ld (iblk m c 6 t) r0_17) (View.ld (iblk m c 7 t) r0_18)
    (View.ld (iblk m c 8 t) r0_19)

/-- Window reads: each staged block at an index, from the arguments. -/
theorem rd_x (c : Dev nD) (t : Fin cfg0.N) (r : Fin 512) (k : Fin 1024) :
    (iblk m c 0 t : FVec Ideal S1x512x1024 .f32) (ix3 0 r k) = (m ((c : Thread nD τ).loc main_arg0) : FVec Ideal S4x2048x1024 .f32)
      (ix3 (bat t) (row t r) k) := by
  unfold bat row
  blk_point [iblk, V, idx t]

theorem rd_mod (c : Dev nD) (t : Fin cfg0.N) (k : Fin 6144) :
    (iblk m c 1 t : FVec Ideal S1x1x6144 .f32) (ix3 0 0 k) = (m ((c : Thread nD τ).loc main_arg1) : FVec Ideal S2x8x6144 .f32)
      (ix3 1 ⟨1 + bat t, by omega⟩ k) := by
  unfold bat
  blk_point [iblk, V, idx t]

theorem rd_nw (c : Dev nD) (t : Fin cfg0.N) (k : Fin 1024) :
    (iblk m c 2 t : FVec Ideal S1x1024 .f32) (ix2 0 k) = (m ((c : Thread nD τ).loc main_arg2) : FVec Ideal S2x1024 .f32) (ix2 1 k) := by
  blk_point [iblk, V, idx t]

theorem rd_win (c : Dev nD) (t : Fin cfg0.N) (k : Fin 1024) (n : Fin 4096) :
    (iblk m c 3 t : FVec Ideal S1024x4096 .bf16) (ix2 k n) = (m ((c : Thread nD τ).loc main_arg3) : FVec Ideal S1x1024x4096 .f32) (ix3 0 k n) := by
  blk_point [iblk, V, idx t]

theorem rd_lg (c : Dev nD) (t : Fin cfg0.N) (k : Fin 2048) :
    (iblk m c 4 t : FVec Ideal S1x2048 .f32) (ix2 0 k) = (m ((c : Thread nD τ).loc main_arg4) : FVec Ideal S1x2048 .f32) (ix2 0 k) := by
  blk_point [iblk, V, idx t]

theorem rd_lb (c : Dev nD) (t : Fin cfg0.N) (k : Fin 2048) :
    (iblk m c 5 t : FVec Ideal S1x2048 .f32) (ix2 0 k) = (m ((c : Thread nD τ).loc main_arg5) : FVec Ideal S1x2048 .f32) (ix2 0 k) := by
  blk_point [iblk, V, idx t]

theorem rd_ws (c : Dev nD) (t : Fin cfg0.N) (g : Fin 8) (p q : Fin 128) :
    (iblk m c 6 t : FVec Ideal S8x128x128 .bf16) (ix3 g p q) = (m ((c : Thread nD τ).loc main_arg6) : FVec Ideal S1x8x128x128 .f32) (ix4 0 g p q) := by
  blk_point [iblk, V, idx t]

theorem rd_bs (c : Dev nD) (t : Fin cfg0.N) (p : Fin 128) (j : Fin 2048) :
    (iblk m c 7 t : FVec Ideal S128x2048 .f32) (ix2 p j) = (m ((c : Thread nD τ).loc main_arg7) : FVec Ideal S1x8x128 .f32) (ix3 0 (grp j) p) := by
  unfold grp
  blk_point [iblk, V, idx t]

theorem rd_wo (c : Dev nD) (t : Fin cfg0.N) (j : Fin 2048) (n : Fin 1024) :
    (iblk m c 8 t : FVec Ideal S2048x1024 .bf16) (ix2 j n) = (m ((c : Thread nD τ).loc main_arg8) : FVec Ideal S1x2048x1024 .f32) (ix3 0 j n) := by
  blk_point [iblk, V, idx t]

/-- Chunk `a` of block `t` holds the reference's rows. -/
theorem chunk_ref (c : Dev nD) (t : Fin cfg0.N) (x : Vec Ideal S1x128x1024 .f32) (a : Fin 4)
    (hx : ∀ (q : Fin 128) (k : Fin 1024), x (ix3 0 q k) = (iblk m c 0 t : FVec Ideal S1x512x1024 .f32) (ix3 0 ⟨128 * a + q, by omega⟩ k))
    (p : Fin 128) (n : Fin 1024) :
    blockChunk m c t x (ix3 0 p n) = ref m c (ix3 (bat t) (row t ⟨128 * a + p, by omega⟩) n) := by
  unfold blockChunk ref
  rw [chunk_at _ _ _ _ _ _ _ _ _ _ _ _ _ _ _ _ _ _ (fun g p q => (m ((c : Thread nD τ).loc main_arg6) : FVec Ideal S1x8x128x128 .f32) (ix4 0 g p q))
    (fun g p => (m ((c : Thread nD τ).loc main_arg7) : FVec Ideal S1x8x128 .f32) (ix3 0 g p))]
  · rw [Cert.SguRefIdeal.RefValue.out_at]
    have e : ∀ (q : Fin 128) (h : 128 * ((row t ⟨128 * a + p, by omega⟩ : ℕ) / 128) + q < 2048),
        (⟨128 * ((row t ⟨128 * a + p, by omega⟩ : ℕ) / 128) + q, h⟩ : Fin 2048) = row t ⟨128 * a + q, by omega⟩ := by
      intro q h; apply Fin.ext; unfold row; simp only []; omega
    have e' : ∀ h : (row t ⟨128 * a + p, by omega⟩ : ℕ) % 128 < 128, (⟨(row t ⟨128 * a + p, by omega⟩ : ℕ) % 128, h⟩ : Fin 128) = p := by
      intro h; apply Fin.ext; unfold row; simp only []; omega
    simp only [e, e']
    unfold Cert.SguRefIdeal.RefValue.md
    pointwise [hx, rd_x, rd_mod, rd_nw, rd_win, rd_lg, rd_lb, rd_wo]
  all_goals (intro p q; pointwise [rd_ws, rd_bs])

/-- What the body leaves in the output block of point `t`, at row `r`, column `n`. -/
theorem point (c : Dev nD) (t : Fin cfg0.N) (y : S1x512x1024.Idx) (r : Fin 512) (n : Fin 1024) (hr : (y 1 : ℕ) = r) (hn : (y 2 : ℕ) = n) :
    out0_9 (iblk m c 0 t) (iblk m c 1 t) (iblk m c 2 t) (iblk m c 3 t) (iblk m c 4 t) (iblk m c 5 t) (iblk m c 6 t) (iblk m c 7 t) (iblk m c 8 t) y
      = ref m c (ix3 (bat t) (row t r) n) := by
  have key : ∀ (a : Fin 4) (x : S1x128x1024.Idx) (X : Vec Ideal S1x128x1024 .f32)
      (hx : ∀ (q : Fin 128) (k : Fin 1024), X (ix3 0 q k) = (iblk m c 0 t : FVec Ideal S1x512x1024 .f32) (ix3 0 ⟨128 * a + q, by omega⟩ k))
      (h1 : (r : ℕ) = 128 * a + (x 1 : ℕ)) (h2 : (n : ℕ) = (x 2 : ℕ)),
      blockChunk m c t X x = ref m c (ix3 (bat t) (row t r) n) := by
    intro a x X hx h1 h2
    obtain ⟨x0, x1, x2, rfl⟩ : ∃ (x0 : Fin 1) (x1 : Fin 128) (x2 : Fin 1024), x = ix3 x0 x1 x2 := ⟨x 0, x 1, x 2, eq_ix3 x⟩
    have hr' : r = ⟨128 * a + x1, by omega⟩ := Fin.ext h1
    have hn' : n = x2 := Fin.ext h2
    rw [hr', hn']
    obtain rfl : x0 = 0 := Subsingleton.elim _ _
    exact chunk_ref m c t X a hx x1 x2
  unfold_out out0_9
  canon_tiles x h
  case piece0 =>
    exact (congrFun (chunk_fourth (View.ld (iblk m c 0 t) r0_6) (hz := rfl) (hv := rfl) (hs := rfl) ..) x).trans
      (key 3 x (View.ld (iblk m c 0 t) r0_6) (fun q k => by pointwise) (by omega) (by omega))
  case piece1 =>
    exact (congrFun (chunk_third (View.ld (iblk m c 0 t) r0_5) (hz := rfl) (hv := rfl) ..) x).trans
      (key 2 x (View.ld (iblk m c 0 t) r0_5) (fun q k => by pointwise) (by omega) (by omega))
  case piece2 => exact key 1 x (View.ld (iblk m c 0 t) r0_4) (fun q k => by pointwise) (by omega) (by omega)
  case piece3 =>
    exact (congrFun (chunk_first (View.ld (iblk m c 0 t) r0_3) (hz := rfl) ..) x).trans
      (key 0 x (View.ld (iblk m c 0 t) r0_3) (fun q k => by pointwise) (by omega) (by omega))

theorem final (c : Dev nD) : (dats m 0 c).arrAt 9 (cfgs 0).N = ref m c := by
  refine (dats m 0 c).arrAt_eq_of_covers 9 _ (by decide +kernel) fun t hf y => ?_
  blk_simp
  rw [after0_9]
  refine (point m c t y ⟨y 1, (y 1).isLt⟩ ⟨y 2, (y 2).isLt⟩ rfl rfl).trans ?_
  unfold bat row
  congr 1
  blk_ext [idx t]

end Cert.SguIdeal.Final
-- ==== Proof.SguClaim.lean ====
/- The spatial gating claims: the frames, the idealization's preservation, and the equality with the reference. -/
module

public import proofs.«01_k».proof.Defs
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguRefIdeal
public import proofs.«01_k».proof.Proof.Gen.SguRefIdeal.Run
public import proofs.«01_k».proof.Proof.SguValue
public import Idealize.ShloMosaic.Lib.Claim
public import Idealize.ShloMosaic.Lib.Quiescent

@[expose] public section

noncomputable section

namespace Cert.Proof

open Idealize.ShloMosaic Idealize.SL.Sem

theorem sgu_quiescent : Cert.quiescent_Sgu := fun m g _ => Cert.Sgu.Gen.frame m g

theorem sguIdeal_quiescent : Cert.quiescent_SguIdeal := fun m g _ => Cert.SguIdeal.Gen.frame m g

theorem sgu_algebraic : Cert.algebraic_SguIdeal_SguRefIdeal := by
  pair_intro
  · run_from Cert.SguIdeal.Gen.run_main m g
  · refine (θ_run _ _ _).mono (fun r h c => ⟨(h c).1.trans ?_, (h c).2⟩) (Cert.SguRefIdeal.Value.run m' g')
    obtain ⟨h0, h1, h2, h3, h4, h5, h6, h7, h8⟩ := hagree c
    refine (Cert.SguRefIdeal.Read.val_main_v83_eq m' c).trans (Eq.trans ?_ (Cert.SguIdeal.Final.final m c).symm)
    unfold Cert.SguIdeal.Final.ref
    rw [h0, h1, h2, h3, h4, h5, h6, h7, h8]

theorem sguRef_quiescent : Cert.quiescent_SguRefIdeal := fun m g _ =>
  (θ_run Cert.SguRefIdeal.defs _ _).mono (fun r h => ⟨fun c => (h c).2, sem_eq_zero_of_no_sems (by decide) r.2⟩)
    (Cert.SguRefIdeal.Value.run (F := Ideal) m g)

theorem sgu_preserves : Cert.preserves_Sgu_SguIdeal := trivial

end Cert.Proof

end
-- ==== Proof.FfnSpec.lean ====
/- The feed-forward block over the extended reals, written once in plain indices: the kernel's side and the
   reference's side both arrive at `Spec.ffnOut` here. -/
module

public import proofs.«01_k».proof.Proof.SguSpec

@[expose] public section

noncomputable section

namespace Cert.Spec

open Idealize.ShloMosaic

/-- The root-mean-square norm of a row with weight `g`. -/
def rms (x g : Fin 1024 → EReal) (k : Fin 1024) : EReal :=
  x k * Ideal.rsqrt (Ideal.div (∑ l, x l * x l) (Ideal.ofBits .f32 0x44800000#32) + Ideal.ofBits .f32 0x358637BD#32) * g k

/-- Cell `(a, b)` of the zero-padded 32 x 64 grid of tokens, the padding one cell wide on each side. -/
def cell (u : Fin 2048 → EReal) (a b : ℕ) : EReal :=
  if h : (1 ≤ a ∧ a - 1 < 32) ∧ 1 ≤ b ∧ b - 1 < 64 then u ⟨(a - 1) * 64 + (b - 1), by omega⟩ else 0

/-- The 3 x 3 convolution of one channel at token `t`, zero padded. -/
def conv (u : Fin 2048 → EReal) (K : Fin 3 → Fin 3 → EReal) (t : Fin 2048) : EReal :=
  cell u (t / 64) (t % 64) * K 0 0 + cell u (t / 64) (t % 64 + 1) * K 0 1 + cell u (t / 64) (t % 64 + 2) * K 0 2
    + cell u (t / 64 + 1) (t % 64) * K 1 0 + cell u (t / 64 + 1) (t % 64 + 1) * K 1 1 + cell u (t / 64 + 1) (t % 64 + 2) * K 1 2
    + cell u (t / 64 + 2) (t % 64) * K 2 0 + cell u (t / 64 + 2) (t % 64 + 1) * K 2 1 + cell u (t / 64 + 2) (t % 64 + 2) * K 2 2

/-- `z` times its logistic function. -/
def silu (z : EReal) : EReal :=
  z * Ideal.div (Ideal.ofBits .f32 0x3F800000#32) (Ideal.ofBits .f32 0x3F800000#32 + Ideal.exp (-z))

/-- First half of the up-projected channels. -/
def vch (j : Fin 2816) : Fin 5632 := ⟨j, by omega⟩
/-- Second half of the up-projected channels. -/
def gch (j : Fin 2816) : Fin 5632 := ⟨2816 + j, by omega⟩

/-- The up-projection of token `t`, channel `n`. -/
def upc (x : Fin 2048 → Fin 1024 → EReal) (g sc sh : Fin 1024 → EReal) (W : Fin 1024 → Fin 5632 → EReal)
    (n : Fin 5632) (t : Fin 2048) : EReal := ∑ k, normMod (x t) g sc sh k * W k n

/-- The convolved channel `n` with its bias. -/
def cvb (x : Fin 2048 → Fin 1024 → EReal) (g sc sh : Fin 1024 → EReal) (W : Fin 1024 → Fin 5632 → EReal)
    (K : Fin 5632 → Fin 3 → Fin 3 → EReal) (bi : Fin 5632 → EReal) (n : Fin 5632) (t : Fin 2048) : EReal :=
  conv (upc x g sc sh W n) (K n) t + bi n

/-- The gated hidden channel `j` of token `t`. -/
def act (x : Fin 2048 → Fin 1024 → EReal) (g sc sh : Fin 1024 → EReal) (W : Fin 1024 → Fin 5632 → EReal)
    (K : Fin 5632 → Fin 3 → Fin 3 → EReal) (bi : Fin 5632 → EReal) (t : Fin 2048) (j : Fin 2816) : EReal :=
  silu (cvb x g sc sh W K bi (gch j) t) * cvb x g sc sh W K bi (vch j) t

/-- The block's output at token `t`, column `n`, after the final norm with weight `nf`. -/
def ffnOut (x : Fin 2048 → Fin 1024 → EReal) (g sc sh gt : Fin 1024 → EReal) (W : Fin 1024 → Fin 5632 → EReal)
    (K : Fin 5632 → Fin 3 → Fin 3 → EReal) (bi : Fin 5632 → EReal) (D : Fin 2816 → Fin 1024 → EReal) (nf : Fin 1024 → EReal)
    (t : Fin 2048) (n : Fin 1024) : EReal :=
  rms (fun l => x t l + gt l * ∑ j, act x g sc sh W K bi t j * D j l) nf n

/-- The two halves of the hidden channels make the whole down-projection. -/
theorem halves (f : Fin 2816 → EReal) (f0 f1 : Fin 1408 → Fin 2816) (w0 : ∀ j, (f0 j : ℕ) = 0 * 1408 + j) (w1 : ∀ j, (f1 j : ℕ) = 1 * 1408 + j) :
    (∑ j, f (f0 j)) + ∑ j, f (f1 j) = ∑ j, f j := by
  refine (Fin.sum_univ_add (a := 1408) (b := 1408) f).symm ▸ ?_
  refine congrArg₂ (· + ·) (Finset.sum_congr rfl fun j _ => congrArg f (Fin.ext ?_)) (Finset.sum_congr rfl fun j _ => congrArg f (Fin.ext ?_))
  · rw [w0]; simp
  · rw [w1]; simp only [Fin.val_natAdd]

end Cert.Spec
-- ==== Proof.FfnPart.lean ====
/- One channel block of the feed-forward kernel's body, read at an index. -/
module

public import proofs.«01_k».proof.Proof.FfnSpec
public import proofs.«01_k».proof.Proof.Gen.FfnIdeal.Skeleton

@[expose] public section

set_option maxRecDepth 16384

noncomputable section

namespace Cert.FfnIdeal.Part

open Cert.FfnIdeal Cert.FfnIdeal.Gen Idealize.ShloMosaic Idealize.ShloMosaic.TcCoe Idealize.SL.Sem
open Cert.Spec

theorem up_at (h : Vec Ideal S640x1024 .bf16) (w : Vec Ideal S1024x1408 .bf16) (q : Fin 640) (j : Fin 1408) :
    k0_pay24 h w (ix2 q j) = ∑ k : Fin 1024, h (ix2 q k) * w (ix2 k j) := by
  pointwise [k0_pay24]

/-- Column `q` of the kernel's three tap columns at row `r`: the rows 64 above, at, and 64 below. -/
def tap (e : Fin 640 → EReal) (K : Fin 3 → Fin 3 → EReal) (q : Fin 3) (r : Fin 512) : EReal :=
  e ⟨r, by omega⟩ * K 0 q + e ⟨64 + r, by omega⟩ * K 1 q + e ⟨128 + r, by omega⟩ * K 2 q

/-- The kernel's convolution of a tile extended by one grid row on each side: outer columns masked and rolled in. -/
def kconv (e : Fin 640 → EReal) (K : Fin 3 → Fin 3 → EReal) (r : Fin 512) : EReal :=
  (if (r : ℕ) % 64 = 0 then 0 else tap e K 0 ⟨((r : ℕ) + 512 - 1) % 512, by omega⟩) + tap e K 1 r
    + (if (r : ℕ) % 64 = 63 then 0 else tap e K 2 ⟨((r : ℕ) + 512 - 511) % 512, by omega⟩)

theorem cell_left (u : Fin 2048 → EReal) (a : ℕ) : cell u a 0 = 0 := dif_neg (by omega)
theorem cell_right (u : Fin 2048 → EReal) (a : ℕ) : cell u a (63 + 2) = 0 := dif_neg (by omega)

/-- On a tile whose extended rows are the padded grid's cells it is the 3 x 3 convolution. -/
theorem kconv_eq (u : Fin 2048 → EReal) (e : Fin 640 → EReal) (K : Fin 3 → Fin 3 → EReal) (i : Fin 4)
    (he : ∀ q : Fin 640, e q = cell u (8 * i + q / 64) (q % 64 + 1)) (r : Fin 512) (t : Fin 2048) (ht : (t : ℕ) = i * 512 + r) :
    kconv e K r = conv u K t := by
  have ta : (t : ℕ) / 64 = 8 * i + r / 64 := by omega
  have tb : (t : ℕ) % 64 = r % 64 := by omega
  have a1 : 8 * (i : ℕ) + (64 + (r : ℕ)) / 64 = 8 * i + r / 64 + 1 := by omega
  have a2 : 8 * (i : ℕ) + (128 + (r : ℕ)) / 64 = 8 * i + r / 64 + 2 := by omega
  have b1 : (64 + (r : ℕ)) % 64 = r % 64 := by omega
  have b2 : (128 + (r : ℕ)) % 64 = r % 64 := by omega
  have mid : tap e K 1 r = cell u (t / 64) (t % 64 + 1) * K 0 1 + cell u (t / 64 + 1) (t % 64 + 1) * K 1 1
      + cell u (t / 64 + 2) (t % 64 + 1) * K 2 1 := by
    unfold tap
    simp only [he, ta, tb, a1, a2, b1, b2]
  have left : (if (r : ℕ) % 64 = 0 then 0 else tap e K 0 ⟨((r : ℕ) + 512 - 1) % 512, by omega⟩) =
      cell u (t / 64) (t % 64) * K 0 0 + cell u (t / 64 + 1) (t % 64) * K 1 0 + cell u (t / 64 + 2) (t % 64) * K 2 0 := by
    by_cases h : (r : ℕ) % 64 = 0
    · rw [if_pos h, tb, h]
      simp only [cell_left, zero_mul, add_zero]
    · rw [if_neg h]
      unfold tap
      have c0 : 8 * (i : ℕ) + (((r : ℕ) + 512 - 1) % 512) / 64 = 8 * i + r / 64 := by omega
      have d0 : (((r : ℕ) + 512 - 1) % 512) % 64 + 1 = r % 64 := by omega
      have c1 : 8 * (i : ℕ) + (64 + ((r : ℕ) + 512 - 1) % 512) / 64 = 8 * i + r / 64 + 1 := by omega
      have d1 : (64 + ((r : ℕ) + 512 - 1) % 512) % 64 + 1 = r % 64 := by omega
      have c2 : 8 * (i : ℕ) + (128 + ((r : ℕ) + 512 - 1) % 512) / 64 = 8 * i + r / 64 + 2 := by omega
      have d2 : (128 + ((r : ℕ) + 512 - 1) % 512) % 64 + 1 = r % 64 := by omega
      simp only [he, ta, tb, c0, c1, c2, d0, d1, d2]
  have right : (if (r : ℕ) % 64 = 63 then 0 else tap e K 2 ⟨((r : ℕ) + 512 - 511) % 512, by omega⟩) =
      cell u (t / 64) (t % 64 + 2) * K 0 2 + cell u (t / 64 + 1) (t % 64 + 2) * K 1 2 + cell u (t / 64 + 2) (t % 64 + 2) * K 2 2 := by
    by_cases h : (r : ℕ) % 64 = 63
    · rw [if_pos h, tb, h]
      simp only [cell_right, zero_mul, add_zero]
    · rw [if_neg h]
      unfold tap
      have c0 : 8 * (i : ℕ) + (((r : ℕ) + 512 - 511) % 512) / 64 = 8 * i + r / 64 := by omega
      have d0 : (((r : ℕ) + 512 - 511) % 512) % 64 + 1 = r % 64 + 2 := by omega
      have c1 : 8 * (i : ℕ) + (64 + ((r : ℕ) + 512 - 511) % 512) / 64 = 8 * i + r / 64 + 1 := by omega
      have d1 : (64 + ((r : ℕ) + 512 - 511) % 512) % 64 + 1 = r % 64 + 2 := by omega
      have c2 : 8 * (i : ℕ) + (128 + ((r : ℕ) + 512 - 511) % 512) / 64 = 8 * i + r / 64 + 2 := by omega
      have d2 : (128 + ((r : ℕ) + 512 - 511) % 512) % 64 + 1 = r % 64 + 2 := by omega
      simp only [he, ta, tb, c0, c1, c2, d0, d1, d2]
  unfold kconv conv
  rw [left, mid, right]
  abel

theorem col_at (r : Fin 512) (z : Fin 1) : k0_pay15 (ix2 r z) = BitVec.ofNat 32 (r % 64) := by
  obtain rfl : z = 0 := Subsingleton.elim _ _
  pointwise [k0_pay15]
  revert r
  decide +kernel

theorem col_eq : k0_pay32 (Scalar.select (Scalar.cmpi .eq 64#32 0#32) 1#32 64#32) k0_pay28 k0_pay29 k0_pay30 k0_pay31 = k0_pay15 := rfl

theorem sel (b : BitVec 1) (x y : EReal) : Scalar.select b x y = if b = 1#1 then x else y := rfl

theorem ne_first (r : Fin 512) : (IntOp.cmpi .ne (BitVec.ofNat 32 ((r : ℕ) % 64)) 0#32 = 1#1) = ¬ (r : ℕ) % 64 = 0 := by
  refine propext ?_
  revert r
  decide +kernel

theorem ne_last (r : Fin 512) : (IntOp.cmpi .ne (BitVec.ofNat 32 ((r : ℕ) % 64)) 63#32 = 1#1) = ¬ (r : ℕ) % 64 = 63 := by
  refine propext ?_
  revert r
  decide +kernel

theorem ext_at (b3 b4 : BitVec 1) (h : Vec Ideal S640x1024 .bf16) (w : Vec Ideal S1024x1408 .bf16) (q : Fin 640) (j : Fin 1408) :
    k0_pay33 (k0_pay25 b3 h w) (k0_pay26 b4 h w) (k0_pay27 h w) (ix2 q j) =
      if (q : ℕ) < 64 then (if b3 = 1#1 then 0 else k0_pay24 h w (ix2 q j))
      else if (q : ℕ) < 576 then k0_pay24 h w (ix2 q j) else (if b4 = 1#1 then 0 else k0_pay24 h w (ix2 q j)) := by
  pointwise [k0_pay33, k0_pay25, k0_pay26, k0_pay27, sel]
  by_cases h1 : (q : ℕ) < 64
  · simp only [h1, dite_true, if_true]
  · by_cases h2 : (q : ℕ) < 576
    · have h3 : (q : ℕ) - 64 < 512 := by omega
      simp only [h1, h2, h3, dite_true, dite_false, if_true, if_false]
      congr 2
      exact Fin.ext (by show 64 + ((q : ℕ) - 64) = q; omega)
    · have h3 : ¬ (q : ℕ) - 64 < 512 := by omega
      simp only [h1, h2, h3, dite_false, if_false]
      congr 3
      exact Fin.ext (by show 576 + ((q : ℕ) - 64 - 512) = q; omega)

theorem above_at (T B : FVec Ideal S64x1408 .f32) (M : FVec Ideal S512x1408 .f32) (r : Fin 512) (j : Fin 1408) :
    k0_pay34 T B M (ix2 r j) = k0_pay33 T B M (ix2 ⟨r, by omega⟩ j) := by
  unfold k0_pay34
  generalize k0_pay33 T B M = y
  pointwise

theorem below_at (T B : FVec Ideal S64x1408 .f32) (M : FVec Ideal S512x1408 .f32) (r : Fin 512) (j : Fin 1408) :
    k0_pay35 T B M (ix2 r j) = k0_pay33 T B M (ix2 ⟨128 + r, by omega⟩ j) := by
  unfold k0_pay35
  generalize k0_pay33 T B M = y
  pointwise

theorem mid_at (T B : FVec Ideal S64x1408 .f32) (M : FVec Ideal S512x1408 .f32) (r : Fin 512) (j : Fin 1408) :
    M (ix2 r j) = k0_pay33 T B M (ix2 ⟨64 + r, by omega⟩ j) := by
  pointwise [k0_pay33]

variable (T B : FVec Ideal S64x1408 .f32) (M : FVec Ideal S512x1408 .f32) (K : Fin 3 → Fin 3 → Fin 1408 → EReal)
  (u0 u1 u2 u3 u4 u5 u6 u7 u8 bi : Vec Ideal S1x1408 .f32)

theorem conv_at (h0 : ∀ j, u0 (ix2 0 j) = K 0 0 j) (h1 : ∀ j, u1 (ix2 0 j) = K 0 1 j) (h2 : ∀ j, u2 (ix2 0 j) = K 0 2 j)
    (h3 : ∀ j, u3 (ix2 0 j) = K 1 0 j) (h4 : ∀ j, u4 (ix2 0 j) = K 1 1 j) (h5 : ∀ j, u5 (ix2 0 j) = K 1 2 j)
    (h6 : ∀ j, u6 (ix2 0 j) = K 2 0 j) (h7 : ∀ j, u7 (ix2 0 j) = K 2 1 j) (h8 : ∀ j, u8 (ix2 0 j) = K 2 2 j) (r : Fin 512) (j : Fin 1408) :
    k0_pay23 k0_pay15 (k0_pay19 M (k0_pay34 T B M) (k0_pay35 T B M) u0 u3 u6) (k0_pay20 M (k0_pay34 T B M) (k0_pay35 T B M) u1 u4 u7)
        (k0_pay21 M (k0_pay34 T B M) (k0_pay35 T B M) u2 u5 u8) (k0_pay22 k0_pay15) bi (ix2 r j) =
      kconv (fun q => k0_pay33 T B M (ix2 q j)) (fun a b => K a b j) r + bi (ix2 0 j) := by
  pointwise [k0_pay23, k0_pay19, k0_pay20, k0_pay21, k0_pay22, above_at, below_at, col_at]
  simp only [mid_at T B M, h0, h1, h2, h3, h4, h5, h6, h7, h8, sel, ne_first, ne_last, ite_not, kconv, tap]

theorem part_at (h0 : ∀ j, u0 (ix2 0 j) = K 0 0 j) (h1 : ∀ j, u1 (ix2 0 j) = K 0 1 j) (h2 : ∀ j, u2 (ix2 0 j) = K 0 2 j)
    (h3 : ∀ j, u3 (ix2 0 j) = K 1 0 j) (h4 : ∀ j, u4 (ix2 0 j) = K 1 1 j) (h5 : ∀ j, u5 (ix2 0 j) = K 1 2 j)
    (h6 : ∀ j, u6 (ix2 0 j) = K 2 0 j) (h7 : ∀ j, u7 (ix2 0 j) = K 2 1 j) (h8 : ∀ j, u8 (ix2 0 j) = K 2 2 j)
    (v : FVec Ideal S512x1408 .f32) (wd : Vec Ideal S1408x1024 .bf16) (r : Fin 512) (n : Fin 1024) :
    k0_pay40 v M k0_pay15 (k0_pay35 T B M) (k0_pay36 T B M u0 u3 u6) (k0_pay37 T B M u1 u4 u7) (k0_pay38 T B M u2) (k0_pay39 u5) u8 bi wd (ix2 r n) =
      ∑ j : Fin 1408, silu (kconv (fun q => k0_pay33 T B M (ix2 q j)) (fun a b => K a b j) r + bi (ix2 0 j)) * v (ix2 r j) * wd (ix2 j n) := by
  pointwise [k0_pay40, k0_pay36, k0_pay37, k0_pay38, k0_pay39, above_at, below_at, col_at, silu]
  simp only [mid_at T B M, h0, h1, h2, h3, h4, h5, h6, h7, h8, sel, ne_first, ne_last, ite_not, kconv, tap, zero_sub]

end Cert.FfnIdeal.Part
-- ==== Proof.FfnRows.lean ====
/- The feed-forward kernel's normalised rows, its accumulator and its closing norm, entry by entry; and its window reads. -/
module

public import proofs.«01_k».proof.Proof.FfnPart
public import proofs.«01_k».proof.Proof.Gen.FfnIdeal.Value
public import Idealize.ShloMosaic.Lib.Pipeline.ValueKit

@[expose] public section

set_option maxRecDepth 16384

noncomputable section

namespace Cert.FfnIdeal.Final

open Cert.FfnIdeal Cert.FfnIdeal.Gen Idealize.ShloMosaic Idealize.ShloMosaic.TcCoe Idealize.SL.Sem
open Cert.Spec Cert.FfnIdeal.Part

theorem rows_at (sh sc : Vec Ideal S1x1x1024 .f32) (x : Vec Ideal S1x512x1024 .f32) (g : Vec Ideal S1x1024 .f32) (r : Fin 512) (n : Fin 1024) :
    k0_pay6 sh sc x g (ix2 r n) = normMod (fun k => x (ix3 0 r k)) (fun k => g (ix2 0 k)) (fun k => sc (ix3 0 0 k)) (fun k => sh (ix3 0 0 k)) n := by
  pointwise [k0_pay6, k0_pay4, k0_pay5, normMod]

theorem upper_at (sh sc : Vec Ideal S1x1x1024 .f32) (x : Vec Ideal S1x64x1024 .f32) (g : Vec Ideal S1x1024 .f32) (r : Fin 64) (n : Fin 1024) :
    k0_pay10 (k0_pay4 sh) (k0_pay5 sc) (k0_pay7 x) (k0_pay8 g) (k0_pay9 x) (ix2 r n)
      = normMod (fun k => x (ix3 0 r k)) (fun k => g (ix2 0 k)) (fun k => sc (ix3 0 0 k)) (fun k => sh (ix3 0 0 k)) n := by
  pointwise [k0_pay10, k0_pay4, k0_pay5, k0_pay7, k0_pay8, k0_pay9, normMod]

theorem lower_at (sh sc : Vec Ideal S1x1x1024 .f32) (x : Vec Ideal S1x64x1024 .f32) (g : Vec Ideal S1x1024 .f32) (r : Fin 64) (n : Fin 1024) :
    k0_pay12 (k0_pay11 (k0_pay4 sh) (k0_pay5 sc) x g) (ix2 r n)
      = normMod (fun k => x (ix3 0 r k)) (fun k => g (ix2 0 k)) (fun k => sc (ix3 0 0 k)) (fun k => sh (ix3 0 0 k)) n := by
  pointwise [k0_pay12, k0_pay11, k0_pay4, k0_pay5, normMod]

theorem first_at (v : FVec Ideal S512x1024 .f32) (r : Fin 512) (n : Fin 1024) : k0_pay1 v (ix2 r n) = v (ix2 r n) := by
  pointwise [k0_pay1]

theorem next_at (v a : FVec Ideal S512x1024 .f32) (r : Fin 512) (n : Fin 1024) : k0_pay2 v a (ix2 r n) = a (ix2 r n) + v (ix2 r n) := by
  pointwise [k0_pay2]

theorem close_at (gt : Vec Ideal S1x1x1024 .f32) (x : Vec Ideal S1x512x1024 .f32) (a : Vec Ideal S512x1024 .f32) (g : Vec Ideal S1x1024 .f32)
    (r : Fin 512) (n : Fin 1024) :
    k0_pay3 gt x a g (ix3 0 r n) = rms (fun l => x (ix3 0 r l) + gt (ix3 0 0 l) * a (ix2 r l)) (fun k => g (ix2 0 k)) n := by
  pointwise [k0_pay3, rms]

theorem idx : ∀ t : Fin cfg0.N, win0_0.index t = ![t.val / 8, t.val / 2 % 4, 0]
    ∧ win0_1.index t = ![t.val / 8, t.val / 2 % 4 * 8 - 1, 0] ∧ win0_2.index t = ![t.val / 8, min (t.val / 2 % 4 * 8 + 8) 31, 0]
    ∧ win0_3.index t = ![t.val / 8, 0, 0] ∧ win0_4.index t = ![0, 0] ∧ win0_5.index t = ![0, t.val % 2] ∧ win0_6.index t = ![0, t.val % 2 + 2]
    ∧ win0_7.index t = ![0, t.val % 2] ∧ win0_8.index t = ![0, t.val % 2 + 2] ∧ win0_9.index t = ![0, t.val % 2]
    ∧ win0_10.index t = ![0, t.val % 2 + 2] ∧ win0_11.index t = ![t.val % 2, 0] ∧ win0_12.index t = ![0, 0]
    ∧ win0_13.index t = ![t.val / 8, t.val / 2 % 4, 0] :=
  (by decide +kernel : ∀ t : Fin grid0.N, _)

/-- Whether a grid point's tile is the first, and whether it is the last, as the body finds it. -/
theorem ends : ∀ t : Fin cfg0.N, (Scalar.cmpi .eq (BitVec.ofNat 32 (grid0.coords t 1).val) 0#32 = 1#1 ↔ t.val / 2 % 4 = 0)
    ∧ (Scalar.cmpi .eq (BitVec.ofNat 32 (grid0.coords t 1).val) 3#32 = 1#1 ↔ t.val / 2 % 4 = 3) :=
  (by decide +kernel : ∀ t : Fin grid0.N, _)

/-- The batch a grid point works on. -/
def bat (t : Fin cfg0.N) : Fin 4 := ⟨t.val / 8, by have h : t.val < 32 := lt_of_lt_of_eq t.isLt N_0; omega⟩
/-- The tile of 512 tokens. -/
def tile (t : Fin cfg0.N) : Fin 4 := ⟨t.val / 2 % 4, by omega⟩
/-- The token a row of a grid point's block is. -/
def row (t : Fin cfg0.N) (r : Fin 512) : Fin 2048 := ⟨t.val / 2 % 4 * 512 + r, by omega⟩
/-- The token a row of the extended tile holds: 64 before the tile, the tile, 64 after it, the neighbours kept inside the grid. -/
def tok (t : Fin cfg0.N) (q : Fin 640) : Fin 2048 :=
  if (q : ℕ) < 64 then ⟨(t.val / 2 % 4 * 8 - 1) * 64 + q % 64, by omega⟩
  else if (q : ℕ) < 576 then ⟨t.val / 2 % 4 * 512 + (q - 64) % 512, by omega⟩
  else ⟨min (t.val / 2 % 4 * 8 + 8) 31 * 64 + (q - 576) % 64, by omega⟩
/-- The channel of the first half that lane `j` of a grid point's block is. -/
def lane (t : Fin cfg0.N) (j : Fin 1408) : Fin 2816 := ⟨t.val % 2 * 1408 + j, by omega⟩

variable (m : (ℓ : Loc nD τ sig) → Buf (Elt Ideal) ℓ) (c : Dev nD)

/-- The arguments the kernel uses, by coordinates. -/
def aX (b : Fin 4) (t : Fin 2048) (k : Fin 1024) : EReal := (m ((c : Thread nD τ).loc main_arg0) : FVec Ideal S4x2048x1024 .f32) (ix3 b t k)
def aM (s : Fin 6) (b : Fin 4) (k : Fin 1024) : EReal :=
  (m ((c : Thread nD τ).loc main_arg1) : FVec Ideal S2x8x6144 .f32) (ix3 1 ⟨1 + b, by omega⟩ ⟨1024 * s + k, by omega⟩)
def aG (k : Fin 1024) : EReal := (m ((c : Thread nD τ).loc main_arg2) : FVec Ideal S2x1024 .f32) (ix2 1 k)
def aW (k : Fin 1024) (n : Fin 5632) : EReal := (m ((c : Thread nD τ).loc main_arg3) : FVec Ideal S2x1024x5632 .f32) (ix3 1 k n)
def aK (n : Fin 5632) (a b : Fin 3) : EReal := (m ((c : Thread nD τ).loc main_arg4) : FVec Ideal S2x3x3x5632 .f32) (ix4 1 a b n)
def aB (n : Fin 5632) : EReal := (m ((c : Thread nD τ).loc main_arg5) : FVec Ideal S2x5632 .f32) (ix2 1 n)
def aD (j : Fin 2816) (n : Fin 1024) : EReal := (m ((c : Thread nD τ).loc main_arg6) : FVec Ideal S2x2816x1024 .f32) (ix3 1 j n)
def aN (k : Fin 1024) : EReal := (m ((c : Thread nD τ).loc main_arg7) : FVec Ideal S1024 .f32) (ix1 k)

variable (t : Fin cfg0.N)

/-- Window reads: each staged block at an index, from the arguments. -/
theorem rd_x (r : Fin 512) (k : Fin 1024) : (iblk m c 0 t : FVec Ideal S1x512x1024 .f32) (ix3 0 r k) = aX m c (bat t) (row t r) k := by
  unfold aX bat row
  blk_point [iblk, V, idx t]

theorem rd_up (q : Fin 64) (k : Fin 1024) :
    (iblk m c 1 t : FVec Ideal S1x64x1024 .f32) (ix3 0 q k) = aX m c (bat t) ⟨(t.val / 2 % 4 * 8 - 1) * 64 + q, by omega⟩ k := by
  unfold aX bat
  blk_point [iblk, V, idx t]

theorem rd_down (q : Fin 64) (k : Fin 1024) :
    (iblk m c 2 t : FVec Ideal S1x64x1024 .f32) (ix3 0 q k) = aX m c (bat t) ⟨min (t.val / 2 % 4 * 8 + 8) 31 * 64 + q, by omega⟩ k := by
  unfold aX bat
  blk_point [iblk, V, idx t]

theorem rd_mod (k : Fin 6144) :
    (iblk m c 3 t : FVec Ideal S1x1x6144 .f32) (ix3 0 0 k) = (m ((c : Thread nD τ).loc main_arg1) : FVec Ideal S2x8x6144 .f32)
      (ix3 1 ⟨1 + bat t, by omega⟩ k) := by
  unfold bat
  blk_point [iblk, V, idx t]

theorem rd_nw (k : Fin 1024) : (iblk m c 4 t : FVec Ideal S1x1024 .f32) (ix2 0 k) = aG m c k := by
  unfold aG
  blk_point [iblk, V, idx t]

theorem rd_wv (k : Fin 1024) (j : Fin 1408) : (iblk m c 5 t : FVec Ideal S1024x1408 .bf16) (ix2 k j) = aW m c k (vch (lane t j)) := by
  unfold aW vch lane
  blk_point [iblk, V, idx t]

theorem rd_wg (k : Fin 1024) (j : Fin 1408) : (iblk m c 6 t : FVec Ideal S1024x1408 .bf16) (ix2 k j) = aW m c k (gch (lane t j)) := by
  unfold aW gch lane
  blk_point [iblk, V, idx t]

theorem rd_kv (a b : Fin 3) (j : Fin 1408) :
    (iblk m c 7 t : FVec Ideal S9x1408 .f32) (ix2 ⟨3 * a + b, by omega⟩ j) = aK m c (vch (lane t j)) a b := by
  unfold aK vch lane
  blk_point [iblk, V, idx t]

theorem rd_kg (a b : Fin 3) (j : Fin 1408) :
    (iblk m c 8 t : FVec Ideal S9x1408 .f32) (ix2 ⟨3 * a + b, by omega⟩ j) = aK m c (gch (lane t j)) a b := by
  unfold aK gch lane
  blk_point [iblk, V, idx t]

theorem rd_bv (j : Fin 1408) : (iblk m c 9 t : FVec Ideal S1x1408 .f32) (ix2 0 j) = aB m c (vch (lane t j)) := by
  unfold aB vch lane
  blk_point [iblk, V, idx t]

theorem rd_bg (j : Fin 1408) : (iblk m c 10 t : FVec Ideal S1x1408 .f32) (ix2 0 j) = aB m c (gch (lane t j)) := by
  unfold aB gch lane
  blk_point [iblk, V, idx t]

theorem rd_wd (j : Fin 1408) (n : Fin 1024) : (iblk m c 11 t : FVec Ideal S1408x1024 .bf16) (ix2 j n) = aD m c (lane t j) n := by
  unfold aD lane
  blk_point [iblk, V, idx t]

theorem rd_nf (k : Fin 1024) : (iblk m c 12 t : FVec Ideal S1x1024 .f32) (ix2 0 k) = aN m c k := by
  unfold aN
  blk_point [iblk, V, idx t]

end Cert.FfnIdeal.Final
-- ==== Proof.FfnRefValue.lean ====
/- The feed-forward reference read at an index: its result is `Spec.ffnOut` of the arguments. -/
module

public import proofs.«01_k».proof.Proof.FfnSpec
public import proofs.«01_k».proof.Proof.Gen.FfnRefIdeal.Read

@[expose] public section

set_option maxRecDepth 16384

noncomputable section

namespace Cert.FfnRefIdeal.RefValue

open Cert.FfnRefIdeal Cert.FfnRefIdeal.Gen Cert.FfnRefIdeal.Read Idealize.ShloMosaic Idealize.ShloMosaic.TcCoe Idealize.SL.Sem
open Cert.Spec

variable (x0 : FVec Ideal S4x2048x1024 .f32) (x1 : FVec Ideal S2x8x6144 .f32) (x2 : FVec Ideal S2x1024 .f32)
  (x3 : FVec Ideal S2x1024x5632 .f32) (x4 : FVec Ideal S2x3x3x5632 .f32) (x5 : FVec Ideal S2x5632 .f32)
  (x6 : FVec Ideal S2x2816x1024 .f32) (x7 : FVec Ideal S1024 .f32)

/-- Section `s` (of 1024) of the sample's modulation row. -/
def md (s : Fin 6) (b : Fin 4) (k : Fin 1024) : EReal := x1 (ix3 1 ⟨1 + b, by omega⟩ ⟨1024 * s + k, by omega⟩)

theorem mod_at (b : Fin 4) (z : Fin 1) (k : Fin 6144) :
    val_main_v2 (F := Ideal) x1 (ix3 b z k) = x1 (ix3 1 ⟨1 + b, by omega⟩ k) := by
  pointwise [val_main_v2, val_main_v1, val_main_v0]

theorem norm_at (b : Fin 4) (t : Fin 2048) (k : Fin 1024) :
    val_main_v29 (F := Ideal) x0 x1 x2 (ix3 b t k) = normMod (fun k => x0 (ix3 b t k)) (fun k => x2 (ix2 1 k))
      (md x1 4 b) (md x1 3 b) k := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v7, val_main_v6, mod_at, normMod, md,
    val_main_cst, val_main_cst_0, val_main_cst_1, val_main_cst_2]

theorem up_at (b : Fin 4) (t : Fin 2048) (n : Fin 5632) :
    val_main_v32 (F := Ideal) x0 x1 x2 x3 (ix3 b t n) = upc (fun t k => x0 (ix3 b t k)) (fun k => x2 (ix2 1 k))
      (md x1 4 b) (md x1 3 b) (fun k n => x3 (ix3 1 k n)) n t := by
  pointwise [val_main_v32, val_main_v31, val_main_v30, norm_at, upc]

theorem pad_at (b : Fin 4) (r : Fin 34) (q : Fin 66) (n : Fin 5632) :
    val_main_v34 (F := Ideal) x0 x1 x2 x3 (ix4 b r q n) = cell (fun t => val_main_v32 (F := Ideal) x0 x1 x2 x3 (ix3 b t n)) r q := by
  pointwise [val_main_v34, val_main_v33, val_main_call0_v0, val_main_c, cell]
  have h0 : (FloatOps.sitofp (F := Ideal) .f32 0#32 : EReal) = 0 := by
    show ((((0#32 : BitVec 32).toInt : ℝ)) : EReal) = 0
    simp
  rw [h0]

theorem conv_at (b : Fin 4) (r : Fin 32) (q : Fin 64) (n : Fin 5632) :
    val_main_v98 (F := Ideal) x0 x1 x2 x3 x4 (ix4 b r q n) =
      conv (fun t => val_main_v32 (F := Ideal) x0 x1 x2 x3 (ix3 b t n)) (fun r q => x4 (ix4 1 r q n)) ⟨r * 64 + q, by omega⟩ := by
  have e1 : ((r : ℕ) * 64 + q) / 64 = r := by omega
  have e2 : ((r : ℕ) * 64 + q) % 64 = q := by omega
  pointwise [val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_3, pad_at]
  unfold conv
  simp only [e1, e2, Nat.add_comm 1, Nat.add_comm 2]

theorem flat_at (b : Fin 4) (t : Fin 2048) (n : Fin 5632) :
    val_main_v99 (F := Ideal) x0 x1 x2 x3 x4 (ix3 b t n) =
      val_main_v98 (F := Ideal) x0 x1 x2 x3 x4 (ix4 b ⟨t / 64, by omega⟩ ⟨t % 64, by omega⟩ n) := by
  pointwise [val_main_v99]

theorem brow_at (b : Fin 4) (t : Fin 2048) (n : Fin 5632) : val_main_v103 (F := Ideal) x5 (ix3 b t n) = x5 (ix2 1 n) := by
  rw [val_main_v103_apply, val_main_v102_apply, val_main_v101_apply, val_main_v100_apply]
  congr 1
  funext a
  match a with
  | ⟨0, _⟩ => rfl
  | ⟨1, _⟩ => exact Fin.ext (by show (n : ℕ) % 5632 = n; omega)

theorem bias_at (b : Fin 4) (t : Fin 2048) (n : Fin 5632) :
    val_main_v104 (F := Ideal) x0 x1 x2 x3 x4 x5 (ix3 b t n) =
      val_main_v99 (F := Ideal) x0 x1 x2 x3 x4 (ix3 b t n) + x5 (ix2 1 n) := by
  rw [val_main_v104_apply, brow_at]
  rfl

theorem biased_at (b : Fin 4) (t : Fin 2048) (n : Fin 5632) :
    val_main_v104 (F := Ideal) x0 x1 x2 x3 x4 x5 (ix3 b t n) = cvb (fun t k => x0 (ix3 b t k)) (fun k => x2 (ix2 1 k))
      (md x1 4 b) (md x1 3 b) (fun k n => x3 (ix3 1 k n)) (fun n r q => x4 (ix4 1 r q n)) (fun n => x5 (ix2 1 n)) n t := by
  have e (h : (t : ℕ) / 64 * 64 + (t : ℕ) % 64 < 2048) : (⟨(t : ℕ) / 64 * 64 + (t : ℕ) % 64, h⟩ : Fin 2048) = t := Fin.ext (by simp only []; omega)
  rw [bias_at, flat_at, conv_at, e]
  simp only [up_at]
  rfl

theorem gate_half (b : Fin 4) (t : Fin 2048) (j : Fin 2816) : val_main_v106 (F := Ideal) x0 x1 x2 x3 x4 x5 (ix3 b t j) =
    val_main_v104 (F := Ideal) x0 x1 x2 x3 x4 x5 (ix3 b t (gch j)) := by
  rw [val_main_v106_apply]
  congr 1
  funext a
  match a with
  | ⟨0, _⟩ => rfl
  | ⟨1, _⟩ => rfl
  | ⟨2, _⟩ => rfl

theorem val_half (b : Fin 4) (t : Fin 2048) (j : Fin 2816) : val_main_v105 (F := Ideal) x0 x1 x2 x3 x4 x5 (ix3 b t j) =
    val_main_v104 (F := Ideal) x0 x1 x2 x3 x4 x5 (ix3 b t (vch j)) := by
  rw [val_main_v105_apply]
  congr 1
  funext a
  match a with
  | ⟨0, _⟩ => rfl
  | ⟨1, _⟩ => rfl
  | ⟨2, _⟩ => rfl

theorem gated_at (b : Fin 4) (t : Fin 2048) (j : Fin 2816) :
    val_main_v108 (F := Ideal) x0 x1 x2 x3 x4 x5 (ix3 b t j) =
      silu (val_main_v104 (F := Ideal) x0 x1 x2 x3 x4 x5 (ix3 b t (gch j))) * val_main_v104 (F := Ideal) x0 x1 x2 x3 x4 x5 (ix3 b t (vch j)) := by
  rw [val_main_v108_apply, val_main_v107_apply, val_main_call1_v5_apply, val_main_call1_v4_apply, val_main_call1_v3_apply,
    val_main_call1_v2_apply, val_main_call1_v1_apply, val_main_call1_v0_apply, gate_half, val_half]
  rfl

theorem act_at (b : Fin 4) (t : Fin 2048) (j : Fin 2816) :
    val_main_v108 (F := Ideal) x0 x1 x2 x3 x4 x5 (ix3 b t j) = act (fun t k => x0 (ix3 b t k)) (fun k => x2 (ix2 1 k))
      (md x1 4 b) (md x1 3 b) (fun k n => x3 (ix3 1 k n)) (fun n r q => x4 (ix4 1 r q n)) (fun n => x5 (ix2 1 n)) t j := by
  rw [gated_at, biased_at, biased_at]
  rfl

theorem out_at (b : Fin 4) (t : Fin 2048) (n : Fin 1024) :
    val_main_v127 (F := Ideal) x0 x1 x2 x3 x4 x5 x6 x7 (ix3 b t n) = ffnOut (fun t k => x0 (ix3 b t k)) (fun k => x2 (ix2 1 k))
      (md x1 4 b) (md x1 3 b) (md x1 5 b) (fun k n => x3 (ix3 1 k n)) (fun n r q => x4 (ix4 1 r q n)) (fun n => x5 (ix2 1 n))
      (fun j n => x6 (ix3 1 j n)) (fun k => x7 (ix1 k)) t n := by
  pointwise [val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v8, mod_at, act_at, ffnOut, rms, md, val_main_cst_4, val_main_cst_5, val_main_cst_6]

end Cert.FfnRefIdeal.RefValue
-- ==== Proof.FfnValue.lean ====
/- The feed-forward kernel's result array is the reference's: two halves of the hidden channels per tile of tokens. -/
module

public import proofs.«01_k».proof.Proof.FfnRows
public import proofs.«01_k».proof.Proof.FfnRefValue
public import Idealize.ShloMosaic.Lib.Pipeline.ValueKit
public import Idealize.ShloMosaic.Lib.Pipeline.ReadBack
public import Idealize.ShloMosaic.Lib.Claim

@[expose] public section

set_option maxRecDepth 16384

noncomputable section

namespace Cert.FfnIdeal.Final

open Cert.FfnIdeal Cert.FfnIdeal.Gen Idealize.ShloMosaic Idealize.ShloMosaic.TcCoe Idealize.SL.Sem
open Idealize.ShloMosaic.Pipeline (Dat)
open Cert.Spec Cert.FfnIdeal.Part

variable (m : (ℓ : Loc nD τ sig) → Buf (Elt Ideal) ℓ) (c : Dev nD) (t : Fin cfg0.N)

/-- The normalised and modulated row a row of the extended tile holds. -/
def hrow (q : Fin 640) (k : Fin 1024) : EReal :=
  normMod (aX m c (bat t) (tok t q)) (aG m c) (aM m c 4 (bat t)) (aM m c 3 (bat t)) k

theorem sc_at (k : Fin 1024) : (View.ld (iblk m c 3 t) (Rect.unit ![0, 0, 4096] ![1, 1, 1024] inb_S1x1x6144_S1x1x1024_0_0_4096) :
    FVec Ideal S1x1x1024 .f32) (ix3 0 0 k) = aM m c 4 (bat t) k := by
  unfold aM
  pointwise [rd_mod]

theorem sh_at (k : Fin 1024) : (View.ld (iblk m c 3 t) (Rect.unit ![0, 0, 3072] ![1, 1, 1024] inb_S1x1x6144_S1x1x1024_0_0_3072) :
    FVec Ideal S1x1x1024 .f32) (ix3 0 0 k) = aM m c 3 (bat t) k := by
  unfold aM
  pointwise [rd_mod]

theorem gt_at (k : Fin 1024) : (View.ld (iblk m c 3 t) (Rect.unit ![0, 0, 5120] ![1, 1, 1024] inb_S1x1x6144_S1x1x1024_0_0_5120) :
    FVec Ideal S1x1x1024 .f32) (ix3 0 0 k) = aM m c 5 (bat t) k := by
  unfold aM
  pointwise [rd_mod]

/-- The three stored pieces of the extended tile, each with its own rows. -/
theorem tok_up (q : Fin 640) (r : Fin 64) (h : (q : ℕ) = r) (k : Fin 1024) :
    (iblk m c 1 t : FVec Ideal S1x64x1024 .f32) (ix3 0 r k) = aX m c (bat t) (tok t q) k := by
  rw [rd_up]
  congr 1
  unfold tok
  rw [if_pos (by omega)]
  apply Fin.ext
  simp only []
  omega

theorem tok_mid (q : Fin 640) (r : Fin 512) (h : (q : ℕ) = 64 + r) (k : Fin 1024) :
    (iblk m c 0 t : FVec Ideal S1x512x1024 .f32) (ix3 0 r k) = aX m c (bat t) (tok t q) k := by
  rw [rd_x]
  congr 1
  unfold tok row
  rw [if_neg (by omega), if_pos (by omega)]
  apply Fin.ext
  simp only []
  omega

theorem tok_down (q : Fin 640) (r : Fin 64) (h : (q : ℕ) = 576 + r) (k : Fin 1024) :
    (iblk m c 2 t : FVec Ideal S1x64x1024 .f32) (ix3 0 r k) = aX m c (bat t) (tok t q) k := by
  rw [rd_down]
  congr 1
  unfold tok
  rw [if_neg (by omega), if_neg (by omega)]
  apply Fin.ext
  simp only []
  omega

theorem cover_at (P0 P1 : FVec Ideal S64x1024 .bf16) (P2 : FVec Ideal S512x1024 .bf16) (y : S640x1024.Idx) :
    ∃ p ∈ ([⟨Rect.unit ![576, 0] ![64, 1024] inb_S640x1024_S64x1024_576_0, P0⟩, ⟨Rect.unit ![0, 0] ![64, 1024] inb_S640x1024_S64x1024_0_0, P1⟩,
      ⟨Rect.unit ![64, 0] ![512, 1024] inb_S640x1024_S512x1024_64_0, P2⟩] : List (View.Piece (Elt Ideal) S640x1024 .bf16)), y ∈ p.1.set := by
  have h0 : (y 0 : ℕ) < 640 := (y 0).isLt
  have h1 : (y 1 : ℕ) < 1024 := (y 1).isLt
  by_cases c0 : 576 ≤ (y 0 : ℕ)
  · refine ⟨_, .head _, (Rect.mem_set_unit (inb := inb_S640x1024_S64x1024_576_0)).2 fun a => ?_⟩
    match a with
    | ⟨0, _⟩ => exact ⟨c0, h0⟩
    | ⟨1, _⟩ => exact ⟨Nat.zero_le _, by show (y 1 : ℕ) < 0 + 1024; omega⟩
  by_cases c1 : (y 0 : ℕ) < 64
  · refine ⟨_, .tail _ (.head _), (Rect.mem_set_unit (inb := inb_S640x1024_S64x1024_0_0)).2 fun a => ?_⟩
    match a with
    | ⟨0, _⟩ => exact ⟨Nat.zero_le _, by show (y 0 : ℕ) < 0 + 64; omega⟩
    | ⟨1, _⟩ => exact ⟨Nat.zero_le _, by show (y 1 : ℕ) < 0 + 1024; omega⟩
  · refine ⟨_, .tail _ (.tail _ (.head _)), (Rect.mem_set_unit (inb := inb_S640x1024_S512x1024_64_0)).2 fun a => ?_⟩
    match a with
    | ⟨0, _⟩ => exact ⟨by show 64 ≤ (y 0 : ℕ); omega, by show (y 0 : ℕ) < 64 + 512; omega⟩
    | ⟨1, _⟩ => exact ⟨Nat.zero_le _, by show (y 1 : ℕ) < 0 + 1024; omega⟩

theorem pieces_at (P0 P1 : FVec Ideal S64x1024 .bf16) (P2 : FVec Ideal S512x1024 .bf16)
    (e0 : ∀ (q : Fin 640) (r : Fin 64) (k : Fin 1024), (q : ℕ) = 576 + r → P0 (ix2 r k) = hrow m c t q k)
    (e1 : ∀ (q : Fin 640) (r : Fin 64) (k : Fin 1024), (q : ℕ) = r → P1 (ix2 r k) = hrow m c t q k)
    (e2 : ∀ (q : Fin 640) (r : Fin 512) (k : Fin 1024), (q : ℕ) = 64 + r → P2 (ix2 r k) = hrow m c t q k) (y : S640x1024.Idx)
    (q : Fin 640) (k : Fin 1024) (w0 : (y 0 : ℕ) = q) (w1 : (y 1 : ℕ) = k) :
    View.canon ([⟨Rect.unit ![576, 0] ![64, 1024] inb_S640x1024_S64x1024_576_0, P0⟩, ⟨Rect.unit ![0, 0] ![64, 1024] inb_S640x1024_S64x1024_0_0, P1⟩,
      ⟨Rect.unit ![64, 0] ![512, 1024] inb_S640x1024_S512x1024_64_0, P2⟩] : List (View.Piece (Elt Ideal) S640x1024 .bf16)) y
      = hrow m c t q k := by
  canon_tiles x h using cover_at P0 P1 P2 y
  case piece0 =>
    rw [eq_ix2 x]
    exact (e0 q (x 0) (x 1) (by omega)).trans (congrArg (hrow m c t q) (Fin.ext (by show (x 1 : ℕ) = k; omega)))
  case piece1 =>
    rw [eq_ix2 x]
    exact (e1 q (x 0) (x 1) (by omega)).trans (congrArg (hrow m c t q) (Fin.ext (by show (x 1 : ℕ) = k; omega)))
  case piece2 =>
    rw [eq_ix2 x]
    exact (e2 q (x 0) (x 1) (by omega)).trans (congrArg (hrow m c t q) (Fin.ext (by show (x 1 : ℕ) = k; omega)))

theorem hpieces : ∀ (q : Fin 640) (k : Fin 1024),
    View.canon ([⟨Rect.unit ![576, 0] ![64, 1024] inb_S640x1024_S64x1024_576_0,
        k0_pay12 (k0_pay11 (k0_pay4 (View.ld (iblk m c 3 t) (Rect.unit ![0, 0, 3072] ![1, 1, 1024] inb_S1x1x6144_S1x1x1024_0_0_3072)))
          (k0_pay5 (View.ld (iblk m c 3 t) (Rect.unit ![0, 0, 4096] ![1, 1, 1024] inb_S1x1x6144_S1x1x1024_0_0_4096))) (iblk m c 2 t) (iblk m c 4 t))⟩,
      ⟨Rect.unit ![0, 0] ![64, 1024] inb_S640x1024_S64x1024_0_0,
        k0_pay10 (k0_pay4 (View.ld (iblk m c 3 t) (Rect.unit ![0, 0, 3072] ![1, 1, 1024] inb_S1x1x6144_S1x1x1024_0_0_3072)))
          (k0_pay5 (View.ld (iblk m c 3 t) (Rect.unit ![0, 0, 4096] ![1, 1, 1024] inb_S1x1x6144_S1x1x1024_0_0_4096)))
          (k0_pay7 (iblk m c 1 t)) (k0_pay8 (iblk m c 4 t)) (k0_pay9 (iblk m c 1 t))⟩,
      ⟨Rect.unit ![64, 0] ![512, 1024] inb_S640x1024_S512x1024_64_0,
        k0_pay6 (View.ld (iblk m c 3 t) (Rect.unit ![0, 0, 3072] ![1, 1, 1024] inb_S1x1x6144_S1x1x1024_0_0_3072))
          (View.ld (iblk m c 3 t) (Rect.unit ![0, 0, 4096] ![1, 1, 1024] inb_S1x1x6144_S1x1x1024_0_0_4096)) (iblk m c 0 t) (iblk m c 4 t)⟩] :
      List (View.Piece (Elt Ideal) S640x1024 .bf16)) (ix2 q k) = hrow m c t q k := by
  refine fun q k => pieces_at m c t _ _ _ (fun q r k h => ?_) (fun q r k h => ?_) (fun q r k h => ?_) (ix2 q k) q k rfl rfl
  · rw [lower_at]
    simp only [sc_at, sh_at, rd_nw, tok_down m c t q r h]
    rfl
  · rw [upper_at]
    simp only [sc_at, sh_at, rd_nw, tok_up m c t q r h]
    rfl
  · rw [rows_at]
    simp only [sc_at, sh_at, rd_nw, tok_mid m c t q r h]
    rfl

theorem hA (e : t.val % 2 = 0) (q : Fin 640) (k : Fin 1024) : (outsAt0 m c t.val t.isLt).2.1 (ix2 q k) = hrow m c t q k := by
  rw [outsAt0_A m c t e e (by omega) (by omega)]
  frame_out
  exact hpieces m c t q k

/-- A channel of the up-projection over the tokens of a grid point's batch. -/
def chan (n : Fin 5632) : Fin 2048 → EReal :=
  upc (aX m c (bat t)) (aG m c) (aM m c 4 (bat t)) (aM m c 3 (bat t)) (aW m c) n

/-- The extended tile's projected rows are the padded grid's cells. -/
theorem ext_cell (H : Vec Ideal S640x1024 .bf16) (hH : ∀ q k, H (ix2 q k) = hrow m c t q k) (w : Vec Ideal S1024x1408 .bf16)
    (n : Fin 1408 → Fin 5632) (hw : ∀ k j, w (ix2 k j) = aW m c k (n j)) (j : Fin 1408) (q : Fin 640) :
    k0_pay33 (k0_pay25 (Scalar.cmpi .eq (BitVec.ofNat 32 (grid0.coords t 1).val) 0#32) H w)
      (k0_pay26 (Scalar.cmpi .eq (BitVec.ofNat 32 (grid0.coords t 1).val) 3#32) H w) (k0_pay27 H w) (ix2 q j)
      = cell (chan m c t (n j)) (8 * tile t + q / 64) (q % 64 + 1) := by
  rw [ext_at]
  simp only [(ends t).1, (ends t).2, up_at, hH, hw]
  unfold cell tile chan upc hrow
  simp only []
  have key : ∀ h : (8 * (t.val / 2 % 4) + (q : ℕ) / 64 - 1) * 64 + ((q : ℕ) % 64 + 1 - 1) < 2048,
      ((q : ℕ) < 64 → t.val / 2 % 4 ≠ 0) → (576 ≤ (q : ℕ) → t.val / 2 % 4 ≠ 3) →
      tok t q = ⟨(8 * (t.val / 2 % 4) + (q : ℕ) / 64 - 1) * 64 + ((q : ℕ) % 64 + 1 - 1), h⟩ := by
    intro h h1 h2
    apply Fin.ext
    unfold tok
    split_ifs <;> simp only [] <;> omega
  split_ifs <;> first | rfl | omega | (rw [key _ (by omega) (by omega)])

/-- The convolved channel with its bias, over the tokens of a grid point's batch. -/
def cvt (n : Fin 5632) (s : Fin 2048) : EReal :=
  cvb (aX m c (bat t)) (aG m c) (aM m c 4 (bat t)) (aM m c 3 (bat t)) (aW m c) (aK m c) (aB m c) n s

theorem tap_cvt (H : Vec Ideal S640x1024 .bf16) (hH : ∀ q k, H (ix2 q k) = hrow m c t q k) (w : Vec Ideal S1024x1408 .bf16)
    (n : Fin 1408 → Fin 5632) (hw : ∀ k j, w (ix2 k j) = aW m c k (n j)) (bi : Vec Ideal S1x1408 .f32)
    (hb : ∀ j, bi (ix2 0 j) = aB m c (n j)) (r : Fin 512) (j : Fin 1408) :
    kconv (fun q => k0_pay33 (k0_pay25 (Scalar.cmpi .eq (BitVec.ofNat 32 (grid0.coords t 1).val) 0#32) H w)
      (k0_pay26 (Scalar.cmpi .eq (BitVec.ofNat 32 (grid0.coords t 1).val) 3#32) H w) (k0_pay27 H w) (ix2 q j))
      (fun a b => aK m c (n j) a b) r + bi (ix2 0 j) = cvt m c t (n j) (row t r) := by
  rw [kconv_eq (chan m c t (n j)) _ _ (tile t) (fun q => ext_cell m c t H hH w n hw j q) r (row t r) rfl, hb]
  rfl

/-- The term a hidden channel adds to the down-projection of a token. -/
def term (s : Fin 2048) (n : Fin 1024) (j : Fin 2816) : EReal :=
  act (aX m c (bat t)) (aG m c) (aM m c 4 (bat t)) (aM m c 3 (bat t)) (aW m c) (aK m c) (aB m c) s j * aD m c j n

/-- What one grid point adds to its tile. -/
def share (r : Fin 512) (n : Fin 1024) : EReal := ∑ j : Fin 1408, term m c t (row t r) n (lane t j)

theorem tapv (a b : Fin 3) (u : Vec Ideal S1x1408 .f32) (hu : ∀ j, u (ix2 0 j) = (iblk m c 7 t : FVec Ideal S9x1408 .f32) (ix2 ⟨3 * a + b, by omega⟩ j))
    (j : Fin 1408) : u (ix2 0 j) = aK m c (vch (lane t j)) a b := (hu j).trans (rd_kv m c t a b j)

theorem tapg (a b : Fin 3) (u : Vec Ideal S1x1408 .f32) (hu : ∀ j, u (ix2 0 j) = (iblk m c 8 t : FVec Ideal S9x1408 .f32) (ix2 ⟨3 * a + b, by omega⟩ j))
    (j : Fin 1408) : u (ix2 0 j) = aK m c (gch (lane t j)) a b := (hu j).trans (rd_kg m c t a b j)

theorem share_at (H : Vec Ideal S640x1024 .bf16) (hH : ∀ q k, H (ix2 q k) = hrow m c t q k)
    (col : IVec S512x1 32) (hcol : col = k0_pay15)
    (r : Fin 512) (n : Fin 1024) :
    k0_pay40
      (k0_pay23 k0_pay15
        (k0_pay19 (k0_pay14 H (iblk m c 5 t)) (k0_pay17 (grid0.coords t) H (iblk m c 5 t)) (k0_pay18 (grid0.coords t) H (iblk m c 5 t))
          (View.ld (iblk m c 7 t) (Rect.unit ![0, 0] ![1, 1408] inb_S9x1408_S1x1408_0_0))
          (View.ld (iblk m c 7 t) (Rect.unit ![3, 0] ![1, 1408] inb_S9x1408_S1x1408_3_0))
          (View.ld (iblk m c 7 t) (Rect.unit ![6, 0] ![1, 1408] inb_S9x1408_S1x1408_6_0)))
        (k0_pay20 (k0_pay14 H (iblk m c 5 t)) (k0_pay17 (grid0.coords t) H (iblk m c 5 t)) (k0_pay18 (grid0.coords t) H (iblk m c 5 t))
          (View.ld (iblk m c 7 t) (Rect.unit ![1, 0] ![1, 1408] inb_S9x1408_S1x1408_1_0))
          (View.ld (iblk m c 7 t) (Rect.unit ![4, 0] ![1, 1408] inb_S9x1408_S1x1408_4_0))
          (View.ld (iblk m c 7 t) (Rect.unit ![7, 0] ![1, 1408] inb_S9x1408_S1x1408_7_0)))
        (k0_pay21 (k0_pay14 H (iblk m c 5 t)) (k0_pay17 (grid0.coords t) H (iblk m c 5 t)) (k0_pay18 (grid0.coords t) H (iblk m c 5 t))
          (View.ld (iblk m c 7 t) (Rect.unit ![2, 0] ![1, 1408] inb_S9x1408_S1x1408_2_0))
          (View.ld (iblk m c 7 t) (Rect.unit ![5, 0] ![1, 1408] inb_S9x1408_S1x1408_5_0))
          (View.ld (iblk m c 7 t) (Rect.unit ![8, 0] ![1, 1408] inb_S9x1408_S1x1408_8_0)))
        (k0_pay22 k0_pay15) (iblk m c 9 t))
      (k0_pay27 H (iblk m c 6 t)) col
      (k0_pay35 (k0_pay25 (Scalar.cmpi .eq (BitVec.ofNat 32 (grid0.coords t 1).val) 0#32) H (iblk m c 6 t))
        (k0_pay26 (Scalar.cmpi .eq (BitVec.ofNat 32 (grid0.coords t 1).val) 3#32) H (iblk m c 6 t)) (k0_pay27 H (iblk m c 6 t)))
      (k0_pay36 (k0_pay25 (Scalar.cmpi .eq (BitVec.ofNat 32 (grid0.coords t 1).val) 0#32) H (iblk m c 6 t))
        (k0_pay26 (Scalar.cmpi .eq (BitVec.ofNat 32 (grid0.coords t 1).val) 3#32) H (iblk m c 6 t)) (k0_pay27 H (iblk m c 6 t))
        (View.ld (iblk m c 8 t) (Rect.unit ![0, 0] ![1, 1408] inb_S9x1408_S1x1408_0_0))
        (View.ld (iblk m c 8 t) (Rect.unit ![3, 0] ![1, 1408] inb_S9x1408_S1x1408_3_0))
        (View.ld (iblk m c 8 t) (Rect.unit ![6, 0] ![1, 1408] inb_S9x1408_S1x1408_6_0)))
      (k0_pay37 (k0_pay25 (Scalar.cmpi .eq (BitVec.ofNat 32 (grid0.coords t 1).val) 0#32) H (iblk m c 6 t))
        (k0_pay26 (Scalar.cmpi .eq (BitVec.ofNat 32 (grid0.coords t 1).val) 3#32) H (iblk m c 6 t)) (k0_pay27 H (iblk m c 6 t))
        (View.ld (iblk m c 8 t) (Rect.unit ![1, 0] ![1, 1408] inb_S9x1408_S1x1408_1_0))
        (View.ld (iblk m c 8 t) (Rect.unit ![4, 0] ![1, 1408] inb_S9x1408_S1x1408_4_0))
        (View.ld (iblk m c 8 t) (Rect.unit ![7, 0] ![1, 1408] inb_S9x1408_S1x1408_7_0)))
      (k0_pay38 (k0_pay25 (Scalar.cmpi .eq (BitVec.ofNat 32 (grid0.coords t 1).val) 0#32) H (iblk m c 6 t))
        (k0_pay26 (Scalar.cmpi .eq (BitVec.ofNat 32 (grid0.coords t 1).val) 3#32) H (iblk m c 6 t)) (k0_pay27 H (iblk m c 6 t))
        (View.ld (iblk m c 8 t) (Rect.unit ![2, 0] ![1, 1408] inb_S9x1408_S1x1408_2_0)))
      (k0_pay39 (View.ld (iblk m c 8 t) (Rect.unit ![5, 0] ![1, 1408] inb_S9x1408_S1x1408_5_0)))
      (View.ld (iblk m c 8 t) (Rect.unit ![8, 0] ![1, 1408] inb_S9x1408_S1x1408_8_0)) (iblk m c 10 t) (iblk m c 11 t) (ix2 r n)
    = share m c t r n := by
  subst hcol
  have hv := conv_at (k0_pay25 (Scalar.cmpi .eq (BitVec.ofNat 32 (grid0.coords t 1).val) 0#32) H (iblk m c 5 t))
    (k0_pay26 (Scalar.cmpi .eq (BitVec.ofNat 32 (grid0.coords t 1).val) 3#32) H (iblk m c 5 t)) (k0_pay27 H (iblk m c 5 t))
    (fun a b j => aK m c (vch (lane t j)) a b) _ _ _ _ _ _ _ _ _ (iblk m c 9 t)
    (tapv m c t 0 0 (View.ld (iblk m c 7 t) (Rect.unit ![0, 0] ![1, 1408] inb_S9x1408_S1x1408_0_0)) (fun j => by pointwise))
    (tapv m c t 0 1 (View.ld (iblk m c 7 t) (Rect.unit ![1, 0] ![1, 1408] inb_S9x1408_S1x1408_1_0)) (fun j => by pointwise))
    (tapv m c t 0 2 (View.ld (iblk m c 7 t) (Rect.unit ![2, 0] ![1, 1408] inb_S9x1408_S1x1408_2_0)) (fun j => by pointwise))
    (tapv m c t 1 0 (View.ld (iblk m c 7 t) (Rect.unit ![3, 0] ![1, 1408] inb_S9x1408_S1x1408_3_0)) (fun j => by pointwise))
    (tapv m c t 1 1 (View.ld (iblk m c 7 t) (Rect.unit ![4, 0] ![1, 1408] inb_S9x1408_S1x1408_4_0)) (fun j => by pointwise))
    (tapv m c t 1 2 (View.ld (iblk m c 7 t) (Rect.unit ![5, 0] ![1, 1408] inb_S9x1408_S1x1408_5_0)) (fun j => by pointwise))
    (tapv m c t 2 0 (View.ld (iblk m c 7 t) (Rect.unit ![6, 0] ![1, 1408] inb_S9x1408_S1x1408_6_0)) (fun j => by pointwise))
    (tapv m c t 2 1 (View.ld (iblk m c 7 t) (Rect.unit ![7, 0] ![1, 1408] inb_S9x1408_S1x1408_7_0)) (fun j => by pointwise))
    (tapv m c t 2 2 (View.ld (iblk m c 7 t) (Rect.unit ![8, 0] ![1, 1408] inb_S9x1408_S1x1408_8_0)) (fun j => by pointwise)) r
  refine (part_at (k0_pay25 (Scalar.cmpi .eq (BitVec.ofNat 32 (grid0.coords t 1).val) 0#32) H (iblk m c 6 t))
    (k0_pay26 (Scalar.cmpi .eq (BitVec.ofNat 32 (grid0.coords t 1).val) 3#32) H (iblk m c 6 t)) (k0_pay27 H (iblk m c 6 t))
    (fun a b j => aK m c (gch (lane t j)) a b) _ _ _ _ _ _ _ _ _ (iblk m c 10 t)
    (tapg m c t 0 0 (View.ld (iblk m c 8 t) (Rect.unit ![0, 0] ![1, 1408] inb_S9x1408_S1x1408_0_0)) (fun j => by pointwise))
    (tapg m c t 0 1 (View.ld (iblk m c 8 t) (Rect.unit ![1, 0] ![1, 1408] inb_S9x1408_S1x1408_1_0)) (fun j => by pointwise))
    (tapg m c t 0 2 (View.ld (iblk m c 8 t) (Rect.unit ![2, 0] ![1, 1408] inb_S9x1408_S1x1408_2_0)) (fun j => by pointwise))
    (tapg m c t 1 0 (View.ld (iblk m c 8 t) (Rect.unit ![3, 0] ![1, 1408] inb_S9x1408_S1x1408_3_0)) (fun j => by pointwise))
    (tapg m c t 1 1 (View.ld (iblk m c 8 t) (Rect.unit ![4, 0] ![1, 1408] inb_S9x1408_S1x1408_4_0)) (fun j => by pointwise))
    (tapg m c t 1 2 (View.ld (iblk m c 8 t) (Rect.unit ![5, 0] ![1, 1408] inb_S9x1408_S1x1408_5_0)) (fun j => by pointwise))
    (tapg m c t 2 0 (View.ld (iblk m c 8 t) (Rect.unit ![6, 0] ![1, 1408] inb_S9x1408_S1x1408_6_0)) (fun j => by pointwise))
    (tapg m c t 2 1 (View.ld (iblk m c 8 t) (Rect.unit ![7, 0] ![1, 1408] inb_S9x1408_S1x1408_7_0)) (fun j => by pointwise))
    (tapg m c t 2 2 (View.ld (iblk m c 8 t) (Rect.unit ![8, 0] ![1, 1408] inb_S9x1408_S1x1408_8_0)) (fun j => by pointwise)) _ _ r n).trans ?_
  unfold share
  refine Finset.sum_congr rfl fun j _ => ?_
  rw [tap_cvt m c t H hH _ (fun j => gch (lane t j)) (rd_wg m c t) _ (rd_bg m c t) r j, rd_wd]
  unfold term act
  refine congrArg₂ (· * ·) (congrArg₂ (· * ·) rfl ?_) rfl
  exact (hv j).trans (tap_cvt m c t H hH _ (fun j => vch (lane t j)) (rd_wv m c t) _ (rd_bv m c t) r j)

theorem accA (e : t.val % 2 = 0) (r : Fin 512) (n : Fin 1024) : (outsAt0 m c t.val t.isLt).2.2 (ix2 r n) = share m c t r n := by
  rw [outsAt0_A m c t e e (by omega) (by omega)]
  frame_out
  rw [first_at]
  refine share_at m c t _ (fun q k => ?_) _ rfl r n
  rw [View.readCov_eq_canon_ld _ _ _ (cover_at _ _ _), View.ld_unit_lit _ _ (by decide)]
  exact hpieces m c t q k

theorem outB (e : t.val % 2 = 1) (r : Fin 512) (n : Fin 1024) :
    (outsAt0 m c t.val t.isLt).1 (ix3 0 r n) = rms (fun l => aX m c (bat t) (row t r) l + aM m c 5 (bat t) l *
      ((outsAt0 m c (t.val - 1) (by omega)).2.2 (ix2 r l) + share m c t r l)) (aN m c) n := by
  have hp : ∀ q k, (outsAt0 m c (t.val - 1) (by omega)).2.1 (ix2 q k) = hrow m c t q k := by
    intro q k
    have hb : t.val - 1 < cfg0.N := lt_of_le_of_lt (Nat.sub_le _ _) t.isLt
    refine (hA m c ⟨t.val - 1, hb⟩ (by show (t.val - 1) % 2 = 0; omega) q k).trans ?_
    have e1 : bat ⟨t.val - 1, hb⟩ = bat t := Fin.ext (by unfold bat; simp only []; omega)
    have e2 : (t.val - 1) / 2 % 4 = t.val / 2 % 4 := by omega
    unfold hrow tok
    simp only [e1, e2]
  rw [outsAt0_B m c t (by omega) (by omega) e e]
  frame_out
  simp only [read_unread_whole]
  rw [close_at]
  simp only [gt_at, rd_nf, rd_x, next_at]
  refine congrArg (fun f : Fin 1024 → EReal => rms f (aN m c) n) (funext fun l => ?_)
  exact congrArg (fun z : EReal => aX m c (bat t) (row t r) l + aM m c 5 (bat t) l * ((outsAt0 m c (t.val - 1) (by omega)).2.2 (ix2 r l) + z))
    (share_at m c t _ hp _ rfl r l)

/-- The reference's result, from the kernel's own arguments. -/
def ref : FVec Ideal S4x2048x1024 .f32 :=
  Cert.FfnRefIdeal.Read.val_main_v127 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem whole (e : t.val % 2 = 1) (r : Fin 512) (n : Fin 1024) :
    (outsAt0 m c (t.val - 1) (lt_of_le_of_lt (Nat.sub_le _ _) t.isLt)).2.2 (ix2 r n) + share m c t r n = ∑ j, term m c t (row t r) n j := by
  have hb : t.val - 1 < cfg0.N := lt_of_le_of_lt (Nat.sub_le _ _) t.isLt
  have e1 : bat ⟨t.val - 1, hb⟩ = bat t := Fin.ext (by unfold bat; simp only []; omega)
  have e2 : row ⟨t.val - 1, hb⟩ r = row t r := Fin.ext (by unfold row; simp only []; omega)
  have ha := accA m c ⟨t.val - 1, hb⟩ (by show (t.val - 1) % 2 = 0; omega) r n
  have hs : share m c ⟨t.val - 1, hb⟩ r n = ∑ j, term m c t (row t r) n (lane ⟨t.val - 1, hb⟩ j) := by
    unfold share term
    simp only [e1, e2]
  rw [← halves (term m c t (row t r) n) (lane ⟨t.val - 1, hb⟩) (lane t)
    (fun j => by unfold lane; simp only []; omega) (fun j => by unfold lane; simp only []; omega)]
  exact congrArg₂ (· + ·) (ha.trans hs) rfl

theorem point (e : t.val % 2 = 1) (r : Fin 512) (n : Fin 1024) :
    (outsAt0 m c t.val t.isLt).1 (ix3 0 r n) = ref m c (ix3 (bat t) (row t r) n) := by
  rw [outB m c t e]
  unfold ref
  rw [Cert.FfnRefIdeal.RefValue.out_at]
  unfold ffnOut
  refine congrArg (fun f : Fin 1024 → EReal => rms f (aN m c) n) (funext fun l => ?_)
  rw [whole m c t e]
  rfl

theorem final : (dats m 0 c).arrAt 13 (cfgs 0).N = ref m c := by
  refine (dats m 0 c).arrAt_eq_of_covers 13 _ (by decide +kernel) fun t hf y => ?_
  blk_simp
  rw [after0_13]
  obtain ⟨y0, y1, y2, rfl⟩ : ∃ (y0 : Fin 1) (y1 : Fin 512) (y2 : Fin 1024), y = ix3 y0 y1 y2 := ⟨y 0, y 1, y 2, eq_ix3 y⟩
  obtain rfl : y0 = 0 := Subsingleton.elim _ _
  refine (point m c t ((flush0_13 t).mp hf) y1 y2).trans ?_
  unfold bat row
  congr 1
  blk_ext [idx t]

end Cert.FfnIdeal.Final
-- ==== Proof.FfnClaim.lean ====
/- The feed-forward block's claims. -/
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.FfnIdeal.Value
public import proofs.«01_k».proof.Proof.FfnValue
public import Idealize.ShloMosaic.Lib.Claim
public import Idealize.ShloMosaic.Lib.Quiescent

@[expose] public section

noncomputable section

namespace Cert.Proof

open Idealize.ShloMosaic Idealize.SL.Sem

theorem ffn_quiescent : Cert.quiescent_Ffn := fun m g _ => Cert.Ffn.Gen.frame m g

theorem ffnIdeal_quiescent : Cert.quiescent_FfnIdeal := fun m g _ => Cert.FfnIdeal.Gen.frame m g

theorem ffnRef_quiescent : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

theorem ffn_preserves : Cert.preserves_Ffn_FfnIdeal := trivial

theorem ffn_algebraic : Cert.algebraic_FfnIdeal_FfnRefIdeal := by
  pair_intro
  · run_from Cert.FfnIdeal.Gen.run_main m g
  · refine (θ_run _ _ _).mono (fun r h c => ⟨(h c).1.trans ?_, (h c).2⟩) (Cert.FfnRefIdeal.Value.run m' g')
    obtain ⟨h0, h1, h2, h3, h4, h5, h6, h7⟩ := hagree c
    refine (Cert.FfnRefIdeal.Read.val_main_v127_eq (Idealize.ShloMosaic.StableHlo.launchContents m' c)).trans (Eq.trans ?_ (Cert.FfnIdeal.Final.final m c).symm)
    unfold Cert.FfnIdeal.Final.ref
    rw [← h0, ← h1, ← h2, ← h3, ← h4, ← h5, ← h6, ← h7]

end Cert.Proof

end
-- ==== Proof.FfpSpec.lean ====
/- The feed-forward block of the context tokens over the extended reals: its convolution runs along the 256 tokens of one request. -/
module

public import proofs.«01_k».proof.Proof.FfnSpec

@[expose] public section

noncomputable section

namespace Cert.Spec

open Idealize.ShloMosaic

/-- The value one token earlier, zero before the first. -/
def before (u : Fin 256 → EReal) (t : Fin 256) : EReal :=
  if h : 1 ≤ (t : ℕ) ∧ (t : ℕ) - 1 < 255 then u ⟨t - 1, by omega⟩ else 0

/-- The value one token later, zero after the last. -/
def later (u : Fin 256 → EReal) (t : Fin 256) : EReal :=
  if h : (t : ℕ) < 255 then u ⟨1 + t, by omega⟩ else 0

/-- The width 3 convolution of one channel at token `t`. -/
def conv3 (u : Fin 256 → EReal) (K : Fin 3 → EReal) (t : Fin 256) : EReal :=
  before u t * K 0 + u t * K 1 + later u t * K 2

/-- The up-projection of token `t`, channel `n`. -/
def upq (x : Fin 256 → Fin 1024 → EReal) (g sc sh : Fin 1024 → EReal) (W : Fin 1024 → Fin 5632 → EReal)
    (n : Fin 5632) (t : Fin 256) : EReal := ∑ k, normMod (x t) g sc sh k * W k n

/-- The convolved channel `n` with its bias. -/
def cvq (x : Fin 256 → Fin 1024 → EReal) (g sc sh : Fin 1024 → EReal) (W : Fin 1024 → Fin 5632 → EReal)
    (K : Fin 5632 → Fin 3 → EReal) (bi : Fin 5632 → EReal) (n : Fin 5632) (t : Fin 256) : EReal :=
  conv3 (upq x g sc sh W n) (K n) t + bi n

/-- The gated hidden channel `j` of token `t`. -/
def acq (x : Fin 256 → Fin 1024 → EReal) (g sc sh : Fin 1024 → EReal) (W : Fin 1024 → Fin 5632 → EReal)
    (K : Fin 5632 → Fin 3 → EReal) (bi : Fin 5632 → EReal) (t : Fin 256) (j : Fin 2816) : EReal :=
  silu (cvq x g sc sh W K bi (gch j) t) * cvq x g sc sh W K bi (vch j) t

/-- The block's output at token `t`, column `n`, after the final norm with weight `nf`. -/
def ffpOut (x : Fin 256 → Fin 1024 → EReal) (g sc sh gt : Fin 1024 → EReal) (W : Fin 1024 → Fin 5632 → EReal)
    (K : Fin 5632 → Fin 3 → EReal) (bi : Fin 5632 → EReal) (D : Fin 2816 → Fin 1024 → EReal) (nf : Fin 1024 → EReal)
    (t : Fin 256) (n : Fin 1024) : EReal :=
  rms (fun l => x t l + gt l * ∑ j, acq x g sc sh W K bi t j * D j l) nf n

end Cert.Spec
-- ==== Proof.FfpPart.lean ====
/- One channel half of the context feed-forward kernel's body, read at an index; and its window reads. -/
module

public import proofs.«01_k».proof.Proof.FfpSpec
public import proofs.«01_k».proof.Proof.Gen.FfpIdeal.Value
public import Idealize.ShloMosaic.Lib.Pipeline.ValueKit

@[expose] public section

set_option maxRecDepth 16384

noncomputable section

namespace Cert.FfpIdeal.Part

open Cert.FfpIdeal Cert.FfpIdeal.Gen Idealize.ShloMosaic Idealize.ShloMosaic.TcCoe Idealize.SL.Sem
open Cert.Spec

theorem up_at (h : Vec Ideal S512x1024 .bf16) (w : Vec Ideal S1024x1408 .bf16) (r : Fin 512) (j : Fin 1408) :
    k0_pay6 h w (ix2 r j) = ∑ k : Fin 1024, h (ix2 r k) * w (ix2 k j) := by
  pointwise [k0_pay6]

theorem up'_eq (h : Vec Ideal S512x1024 .bf16) (w : Vec Ideal S1024x1408 .bf16) : k0_pay12 h w = k0_pay6 h w := rfl

theorem col_at (r : Fin 512) (z : Fin 1) : k0_pay7 (ix2 r z) = BitVec.ofNat 32 (r % 256) := by
  obtain rfl : z = 0 := Subsingleton.elim _ _
  pointwise [k0_pay7]
  revert r
  decide +kernel

theorem col'_eq : k0_pay13 = k0_pay7 := rfl

theorem sel (b : BitVec 1) (x y : EReal) : Scalar.select b x y = if b = 1#1 then x else y := rfl

theorem ne_first (r : Fin 512) : (IntOp.cmpi .ne (BitVec.ofNat 32 ((r : ℕ) % 256)) 0#32 = 1#1) = ¬ (r : ℕ) % 256 = 0 := by
  refine propext ?_
  revert r
  decide +kernel

theorem ne_last (r : Fin 512) : (IntOp.cmpi .ne (BitVec.ofNat 32 ((r : ℕ) % 256)) 255#32 = 1#1) = ¬ (r : ℕ) % 256 = 255 := by
  refine propext ?_
  revert r
  decide +kernel

/-- The kernel's convolution of two requests stacked: each outer tap rolled in from its neighbour row, masked at a request's end. -/
def kconv (u : Fin 512 → EReal) (K : Fin 3 → EReal) (r : Fin 512) : EReal :=
  (if (r : ℕ) % 256 = 0 then 0 else u ⟨((r : ℕ) + 512 - 1) % 512, by omega⟩ * K 0) + u r * K 1
    + (if (r : ℕ) % 256 = 255 then 0 else u ⟨((r : ℕ) + 512 - 511) % 512, by omega⟩ * K 2)

/-- On the rows of one request it is the width 3 convolution. -/
theorem kconv_eq (u : Fin 512 → EReal) (v : Fin 256 → EReal) (K : Fin 3 → EReal) (r : Fin 512)
    (hu : ∀ q : Fin 512, (q : ℕ) / 256 = r / 256 → u q = v ⟨q % 256, by omega⟩) : kconv u K r = conv3 v K ⟨r % 256, by omega⟩ := by
  have left : (if (r : ℕ) % 256 = 0 then 0 else u ⟨((r : ℕ) + 512 - 1) % 512, by omega⟩ * K 0) = before v ⟨r % 256, by omega⟩ * K 0 := by
    unfold before
    by_cases h : (r : ℕ) % 256 = 0
    · rw [if_pos h, dif_neg (by simp only; omega), zero_mul]
    · rw [if_neg h, dif_pos (by simp only; omega), hu _ (by simp only; omega)]
      congr 3
      simp only
      omega
  have right : (if (r : ℕ) % 256 = 255 then 0 else u ⟨((r : ℕ) + 512 - 511) % 512, by omega⟩ * K 2) = later v ⟨r % 256, by omega⟩ * K 2 := by
    unfold later
    by_cases h : (r : ℕ) % 256 = 255
    · rw [if_pos h, dif_neg (by simp only; omega), zero_mul]
    · rw [if_neg h, dif_pos (by simp only; omega), hu _ (by simp only; omega)]
      congr 3
      simp only
      omega
  unfold kconv conv3
  rw [left, right, hu r rfl]

theorem conv_at (h : Vec Ideal S512x1024 .bf16) (w : Vec Ideal S1024x1408 .bf16) (u0 u1 u2 bi : Vec Ideal S1x1408 .f32)
    (r : Fin 512) (j : Fin 1408) :
    k0_pay11 k0_pay7 (k0_pay8 h w u0) (k0_pay9 h w u1) (k0_pay10 h w u2) 0#32 bi (ix2 r j) =
      kconv (fun q => k0_pay6 h w (ix2 q j)) ![u0 (ix2 0 j), u1 (ix2 0 j), u2 (ix2 0 j)] r + bi (ix2 0 j) := by
  pointwise [k0_pay11, k0_pay8, k0_pay9, k0_pay10, col_at]
  simp only [sel, ne_first, ne_last, ite_not, kconv]
  rfl

theorem gated_at (v e : FVec Ideal S512x1408 .f32) (u0 u1 u2 bi : Vec Ideal S1x1408 .f32) (r : Fin 512) (j : Fin 1408) :
    k0_pay14 v e k0_pay7 u0 u1 u2 bi (ix2 r j) =
      silu (kconv (fun q => e (ix2 q j)) ![u0 (ix2 0 j), u1 (ix2 0 j), u2 (ix2 0 j)] r + bi (ix2 0 j)) * v (ix2 r j) := by
  pointwise [k0_pay14, col_at, silu]
  simp only [sel, ne_first, ne_last, ite_not, kconv, zero_sub]
  rfl

theorem down_at (v : FVec Ideal S512x1408 .f32) (wd : Vec Ideal S1408x1024 .bf16) (r : Fin 512) (n : Fin 1024) :
    k0_pay2 v wd (ix2 r n) = ∑ j : Fin 1408, v (ix2 r j) * wd (ix2 j n) := by
  pointwise [k0_pay2, k0_pay1]

theorem next_at (v : FVec Ideal S512x1408 .f32) (wd : Vec Ideal S1408x1024 .bf16) (a : Vec Ideal S512x1024 .f32) (r : Fin 512) (n : Fin 1024) :
    k0_pay3 v wd a (ix2 r n) = a (ix2 r n) + ∑ j : Fin 1408, v (ix2 r j) * wd (ix2 j n) := by
  pointwise [k0_pay3, k0_pay1]

theorem rows_at (sh sc : Vec Ideal S1x1x1024 .f32) (x : Vec Ideal S1x512x1024 .f32) (g : Vec Ideal S1x1024 .f32) (r : Fin 512) (n : Fin 1024) :
    k0_pay5 sh sc x g (ix2 r n) = normMod (fun k => x (ix3 0 r k)) (fun k => g (ix2 0 k)) (fun k => sc (ix3 0 0 k)) (fun k => sh (ix3 0 0 k)) n := by
  pointwise [k0_pay5, normMod]

theorem close_at (gt : Vec Ideal S1x1x1024 .f32) (x : Vec Ideal S1x512x1024 .f32) (a : Vec Ideal S512x1024 .f32) (g : Vec Ideal S1x1024 .f32)
    (r : Fin 512) (n : Fin 1024) :
    k0_pay4 gt x a g (ix3 0 r n) = rms (fun l => x (ix3 0 r l) + gt (ix3 0 0 l) * a (ix2 r l)) (fun k => g (ix2 0 k)) n := by
  pointwise [k0_pay4, rms]

theorem idx : ∀ t : Fin cfg0.N, win0_0.index t = ![t.val / 2, 0, 0] ∧ win0_1.index t = ![0, 0, 0] ∧ win0_2.index t = ![0, 0]
    ∧ win0_3.index t = ![0, t.val % 2] ∧ win0_4.index t = ![0, t.val % 2 + 2] ∧ win0_5.index t = ![0, t.val % 2]
    ∧ win0_6.index t = ![0, t.val % 2 + 2] ∧ win0_7.index t = ![0, t.val % 2] ∧ win0_8.index t = ![0, t.val % 2 + 2]
    ∧ win0_9.index t = ![t.val % 2, 0] ∧ win0_10.index t = ![0, 0] ∧ win0_11.index t = ![t.val / 2, 0, 0] :=
  (by decide +kernel : ∀ t : Fin grid0.N, _)

/-- The pair of requests a grid point works on. -/
def pair (t : Fin cfg0.N) : Fin 8 := ⟨t.val / 2, by have h : t.val < 16 := lt_of_lt_of_eq t.isLt N_0; omega⟩
/-- The request a row of the pair belongs to. -/
def req (p : Fin 8) (r : Fin 512) : Fin 16 := ⟨p * 2 + r / 256, by omega⟩
/-- The channel of the first half that lane `j` of a grid point's block is. -/
def lane (t : Fin cfg0.N) (j : Fin 1408) : Fin 2816 := ⟨t.val % 2 * 1408 + j, by omega⟩

variable (m : (ℓ : Loc nD τ sig) → Buf (Elt Ideal) ℓ) (c : Dev nD)

/-- The arguments the kernel uses, by coordinates. -/
def aX (b : Fin 16) (t : Fin 256) (k : Fin 1024) : EReal := (m ((c : Thread nD τ).loc main_arg0) : FVec Ideal S16x256x1024 .f32) (ix3 b t k)
def aM (s : Fin 6) (k : Fin 1024) : EReal :=
  (m ((c : Thread nD τ).loc main_arg1) : FVec Ideal S2x8x6144 .f32) (ix3 1 0 ⟨1024 * s + k, by omega⟩)
def aG (k : Fin 1024) : EReal := (m ((c : Thread nD τ).loc main_arg2) : FVec Ideal S2x1024 .f32) (ix2 1 k)
def aW (k : Fin 1024) (n : Fin 5632) : EReal := (m ((c : Thread nD τ).loc main_arg3) : FVec Ideal S2x1024x5632 .f32) (ix3 1 k n)
def aK (n : Fin 5632) (q : Fin 3) : EReal := (m ((c : Thread nD τ).loc main_arg4) : FVec Ideal S2x3x3x5632 .f32) (ix4 1 1 q n)
def aB (n : Fin 5632) : EReal := (m ((c : Thread nD τ).loc main_arg5) : FVec Ideal S2x5632 .f32) (ix2 1 n)
def aD (j : Fin 2816) (n : Fin 1024) : EReal := (m ((c : Thread nD τ).loc main_arg6) : FVec Ideal S2x2816x1024 .f32) (ix3 1 j n)
def aN (k : Fin 1024) : EReal := (m ((c : Thread nD τ).loc main_arg7) : FVec Ideal S1024 .f32) (ix1 k)

variable (t : Fin cfg0.N)

/-- Window reads: each staged block at an index, from the arguments. -/
theorem rd_x (r : Fin 512) (k : Fin 1024) :
    (iblk m c 0 t : FVec Ideal S1x512x1024 .f32) (ix3 0 r k) = aX m c (req (pair t) r) ⟨r % 256, by omega⟩ k := by
  unfold aX req pair
  blk_point [iblk, V, idx t]

theorem rd_mod (k : Fin 6144) :
    (iblk m c 1 t : FVec Ideal S1x1x6144 .f32) (ix3 0 0 k) = (m ((c : Thread nD τ).loc main_arg1) : FVec Ideal S2x8x6144 .f32) (ix3 1 0 k) := by
  blk_point [iblk, V, idx t]

theorem rd_nw (k : Fin 1024) : (iblk m c 2 t : FVec Ideal S1x1024 .f32) (ix2 0 k) = aG m c k := by
  unfold aG
  blk_point [iblk, V, idx t]

theorem rd_wv (k : Fin 1024) (j : Fin 1408) : (iblk m c 3 t : FVec Ideal S1024x1408 .bf16) (ix2 k j) = aW m c k (vch (lane t j)) := by
  unfold aW vch lane
  blk_point [iblk, V, idx t]

theorem rd_wg (k : Fin 1024) (j : Fin 1408) : (iblk m c 4 t : FVec Ideal S1024x1408 .bf16) (ix2 k j) = aW m c k (gch (lane t j)) := by
  unfold aW gch lane
  blk_point [iblk, V, idx t]

theorem rd_kv (q : Fin 3) (j : Fin 1408) :
    (iblk m c 5 t : FVec Ideal S9x1408 .f32) (ix2 ⟨3 + q, by omega⟩ j) = aK m c (vch (lane t j)) q := by
  unfold aK vch lane
  blk_point [iblk, V, idx t]

theorem rd_kg (q : Fin 3) (j : Fin 1408) :
    (iblk m c 6 t : FVec Ideal S9x1408 .f32) (ix2 ⟨3 + q, by omega⟩ j) = aK m c (gch (lane t j)) q := by
  unfold aK gch lane
  blk_point [iblk, V, idx t]

theorem rd_bv (j : Fin 1408) : (iblk m c 7 t : FVec Ideal S1x1408 .f32) (ix2 0 j) = aB m c (vch (lane t j)) := by
  unfold aB vch lane
  blk_point [iblk, V, idx t]

theorem rd_bg (j : Fin 1408) : (iblk m c 8 t : FVec Ideal S1x1408 .f32) (ix2 0 j) = aB m c (gch (lane t j)) := by
  unfold aB gch lane
  blk_point [iblk, V, idx t]

theorem rd_wd (j : Fin 1408) (n : Fin 1024) : (iblk m c 9 t : FVec Ideal S1408x1024 .bf16) (ix2 j n) = aD m c (lane t j) n := by
  unfold aD lane
  blk_point [iblk, V, idx t]

theorem rd_nf (k : Fin 1024) : (iblk m c 10 t : FVec Ideal S1x1024 .f32) (ix2 0 k) = aN m c k := by
  unfold aN
  blk_point [iblk, V, idx t]

end Cert.FfpIdeal.Part
-- ==== Proof.FfpRefValue.lean ====
/- The context feed-forward reference read at an index: its result is `Spec.ffpOut` of the arguments. -/
module

public import proofs.«01_k».proof.Proof.FfpSpec
public import proofs.«01_k».proof.Proof.Gen.FfpRefIdeal.Read

@[expose] public section

set_option maxRecDepth 16384

noncomputable section

namespace Cert.FfpRefIdeal.RefValue

open Cert.FfpRefIdeal Cert.FfpRefIdeal.Gen Cert.FfpRefIdeal.Read Idealize.ShloMosaic Idealize.ShloMosaic.TcCoe Idealize.SL.Sem
open Cert.Spec

variable (x0 : FVec Ideal S16x256x1024 .f32) (x1 : FVec Ideal S2x8x6144 .f32) (x2 : FVec Ideal S2x1024 .f32)
  (x3 : FVec Ideal S2x1024x5632 .f32) (x4 : FVec Ideal S2x3x3x5632 .f32) (x5 : FVec Ideal S2x5632 .f32)
  (x6 : FVec Ideal S2x2816x1024 .f32) (x7 : FVec Ideal S1024 .f32)

/-- Section `s` (of 1024) of the context's modulation row. -/
def md (s : Fin 6) (k : Fin 1024) : EReal := x1 (ix3 1 0 ⟨1024 * s + k, by omega⟩)

theorem mod_at (z y : Fin 1) (k : Fin 6144) : val_main_v2 (F := Ideal) x1 (ix3 z y k) = x1 (ix3 1 0 k) := by
  obtain rfl : z = 0 := Subsingleton.elim _ _
  pointwise [val_main_v2, val_main_v1, val_main_v0]

theorem norm_at (b : Fin 16) (t : Fin 256) (k : Fin 1024) :
    val_main_v29 (F := Ideal) x0 x1 x2 (ix3 b t k) = normMod (fun k => x0 (ix3 b t k)) (fun k => x2 (ix2 1 k)) (md x1 4) (md x1 3) k := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v7, val_main_v6, mod_at, normMod, md,
    val_main_cst, val_main_cst_0, val_main_cst_1, val_main_cst_2]

theorem up_at (b : Fin 16) (t : Fin 256) (n : Fin 5632) :
    val_main_v32 (F := Ideal) x0 x1 x2 x3 (ix3 b t n) = upq (fun t k => x0 (ix3 b t k)) (fun k => x2 (ix2 1 k))
      (md x1 4) (md x1 3) (fun k n => x3 (ix3 1 k n)) n t := by
  pointwise [val_main_v32, val_main_v31, val_main_v30, norm_at, upq]

theorem zero_word : (FloatOps.sitofp (F := Ideal) .f32 0#32 : EReal) = 0 := by
  show ((((0#32 : BitVec 32).toInt : ℝ)) : EReal) = 0
  simp

theorem before_at (b : Fin 16) (t : Fin 256) (n : Fin 5632) :
    val_main_v34 (F := Ideal) x0 x1 x2 x3 (ix3 b t n) = before (fun t => val_main_v32 (F := Ideal) x0 x1 x2 x3 (ix3 b t n)) t := by
  pointwise [val_main_v34, val_main_v33, val_main_call0_v0, val_main_c, before, zero_word]

theorem later_at (b : Fin 16) (t : Fin 256) (n : Fin 5632) :
    val_main_v36 (F := Ideal) x0 x1 x2 x3 (ix3 b t n) = later (fun t => val_main_v32 (F := Ideal) x0 x1 x2 x3 (ix3 b t n)) t := by
  pointwise [val_main_v36, val_main_v35, val_main_call1_v0, val_main_c_3, later, zero_word]

theorem conv_at (b : Fin 16) (t : Fin 256) (n : Fin 5632) :
    val_main_v53 (F := Ideal) x0 x1 x2 x3 x4 (ix3 b t n) =
      conv3 (fun t => val_main_v32 (F := Ideal) x0 x1 x2 x3 (ix3 b t n)) (fun q => x4 (ix4 1 1 q n)) t := by
  pointwise [val_main_v53, val_main_v52, val_main_v51, val_main_v50, val_main_v49, val_main_v48, val_main_v47, val_main_v46,
    val_main_v45, val_main_v44, val_main_v43, val_main_v42, val_main_v41, val_main_v40, val_main_v39, val_main_v38, val_main_v37,
    before_at, later_at, conv3]

theorem brow_at (b : Fin 16) (t : Fin 256) (n : Fin 5632) : val_main_v57 (F := Ideal) x5 (ix3 b t n) = x5 (ix2 1 n) := by
  rw [val_main_v57_apply, val_main_v56_apply, val_main_v55_apply, val_main_v54_apply]
  congr 1
  funext a
  match a with
  | ⟨0, _⟩ => rfl
  | ⟨1, _⟩ => exact Fin.ext (by show (n : ℕ) % 5632 = n; omega)

theorem biased_at (b : Fin 16) (t : Fin 256) (n : Fin 5632) :
    val_main_v58 (F := Ideal) x0 x1 x2 x3 x4 x5 (ix3 b t n) = cvq (fun t k => x0 (ix3 b t k)) (fun k => x2 (ix2 1 k))
      (md x1 4) (md x1 3) (fun k n => x3 (ix3 1 k n)) (fun n q => x4 (ix4 1 1 q n)) (fun n => x5 (ix2 1 n)) n t := by
  rw [val_main_v58_apply, brow_at, conv_at]
  simp only [up_at]
  rfl

theorem gate_half (b : Fin 16) (t : Fin 256) (j : Fin 2816) : val_main_v60 (F := Ideal) x0 x1 x2 x3 x4 x5 (ix3 b t j) =
    val_main_v58 (F := Ideal) x0 x1 x2 x3 x4 x5 (ix3 b t (gch j)) := by
  rw [val_main_v60_apply]
  congr 1
  funext a
  match a with
  | ⟨0, _⟩ => rfl
  | ⟨1, _⟩ => rfl
  | ⟨2, _⟩ => rfl

theorem val_half (b : Fin 16) (t : Fin 256) (j : Fin 2816) : val_main_v59 (F := Ideal) x0 x1 x2 x3 x4 x5 (ix3 b t j) =
    val_main_v58 (F := Ideal) x0 x1 x2 x3 x4 x5 (ix3 b t (vch j)) := by
  rw [val_main_v59_apply]
  congr 1
  funext a
  match a with
  | ⟨0, _⟩ => rfl
  | ⟨1, _⟩ => rfl
  | ⟨2, _⟩ => rfl

theorem act_at (b : Fin 16) (t : Fin 256) (j : Fin 2816) :
    val_main_v62 (F := Ideal) x0 x1 x2 x3 x4 x5 (ix3 b t j) = acq (fun t k => x0 (ix3 b t k)) (fun k => x2 (ix2 1 k))
      (md x1 4) (md x1 3) (fun k n => x3 (ix3 1 k n)) (fun n q => x4 (ix4 1 1 q n)) (fun n => x5 (ix2 1 n)) t j := by
  rw [val_main_v62_apply, val_main_v61_apply, val_main_call2_v5_apply, val_main_call2_v4_apply, val_main_call2_v3_apply,
    val_main_call2_v2_apply, val_main_call2_v1_apply, val_main_call2_v0_apply, gate_half, val_half, biased_at, biased_at]
  rfl

theorem row_at (b : Fin 16) (t : Fin 256) (n : Fin 1024) :
    val_main_v81 (F := Ideal) x0 x1 x2 x3 x4 x5 x6 x7 (ix3 b t n) = ffpOut (fun t k => x0 (ix3 b t k)) (fun k => x2 (ix2 1 k))
      (md x1 4) (md x1 3) (md x1 5) (fun k n => x3 (ix3 1 k n)) (fun n q => x4 (ix4 1 1 q n)) (fun n => x5 (ix2 1 n))
      (fun j n => x6 (ix3 1 j n)) (fun k => x7 (ix1 k)) t n := by
  pointwise [val_main_v81, val_main_v80, val_main_v79, val_main_v78, val_main_v77, val_main_v76, val_main_v75, val_main_v74,
    val_main_v73, val_main_v72, val_main_v71, val_main_v70, val_main_v69, val_main_v68, val_main_v67, val_main_v66, val_main_v65,
    val_main_v64, val_main_v63, val_main_v8, mod_at, act_at, ffpOut, rms, md, val_main_cst_4, val_main_cst_5, val_main_cst_6]

/-- Two requests side by side: row `r` of pair `p`. -/
theorem out_at (p : Fin 8) (r : Fin 512) (n : Fin 1024) :
    val_main_v82 (F := Ideal) x0 x1 x2 x3 x4 x5 x6 x7 (ix3 p r n) =
      val_main_v81 (F := Ideal) x0 x1 x2 x3 x4 x5 x6 x7 (ix3 ⟨p * 2 + r / 256, by omega⟩ ⟨r % 256, by omega⟩ n) := by
  pointwise [val_main_v82]

end Cert.FfpRefIdeal.RefValue
-- ==== Proof.FfpValue.lean ====
/- The context feed-forward kernel's result array is the reference's: two halves of the hidden channels per pair of requests. -/
module

public import proofs.«01_k».proof.Proof.FfpPart
public import proofs.«01_k».proof.Proof.FfpRefValue
public import Idealize.ShloMosaic.Lib.Pipeline.ValueKit
public import Idealize.ShloMosaic.Lib.Pipeline.ReadBack
public import Idealize.ShloMosaic.Lib.Claim

@[expose] public section

set_option maxRecDepth 16384

noncomputable section

namespace Cert.FfpIdeal.Final

open Cert.FfpIdeal Cert.FfpIdeal.Gen Idealize.ShloMosaic Idealize.ShloMosaic.TcCoe Idealize.SL.Sem
open Idealize.ShloMosaic.Pipeline (Dat)
open Cert.Spec Cert.FfpIdeal.Part

variable (m : (ℓ : Loc nD τ sig) → Buf (Elt Ideal) ℓ) (c : Dev nD) (t : Fin cfg0.N)

/-- The normalised and modulated row of a pair. -/
def hrow (p : Fin 8) (r : Fin 512) (k : Fin 1024) : EReal :=
  normMod (aX m c (req p r) ⟨r % 256, by omega⟩) (aG m c) (aM m c 4) (aM m c 3) k

theorem sc_at (k : Fin 1024) : (View.ld (iblk m c 1 t) (Rect.unit ![0, 0, 4096] ![1, 1, 1024] inb_S1x1x6144_S1x1x1024_0_0_4096) :
    FVec Ideal S1x1x1024 .f32) (ix3 0 0 k) = aM m c 4 k := by
  unfold aM
  pointwise [rd_mod]

theorem sh_at (k : Fin 1024) : (View.ld (iblk m c 1 t) (Rect.unit ![0, 0, 3072] ![1, 1, 1024] inb_S1x1x6144_S1x1x1024_0_0_3072) :
    FVec Ideal S1x1x1024 .f32) (ix3 0 0 k) = aM m c 3 k := by
  unfold aM
  pointwise [rd_mod]

theorem gt_at (k : Fin 1024) : (View.ld (iblk m c 1 t) (Rect.unit ![0, 0, 5120] ![1, 1, 1024] inb_S1x1x6144_S1x1x1024_0_0_5120) :
    FVec Ideal S1x1x1024 .f32) (ix3 0 0 k) = aM m c 5 k := by
  unfold aM
  pointwise [rd_mod]

theorem hrow_at (r : Fin 512) (k : Fin 1024) :
    k0_pay5 (View.ld (iblk m c 1 t) (Rect.unit ![0, 0, 3072] ![1, 1, 1024] inb_S1x1x6144_S1x1x1024_0_0_3072))
      (View.ld (iblk m c 1 t) (Rect.unit ![0, 0, 4096] ![1, 1, 1024] inb_S1x1x6144_S1x1x1024_0_0_4096)) (iblk m c 0 t) (iblk m c 2 t) (ix2 r k)
      = hrow m c (pair t) r k := by
  rw [rows_at]
  simp only [sc_at, sh_at, rd_nw, rd_x]
  rfl

/-- The convolved channel with its bias at a row of the pair. -/
def cvt (p : Fin 8) (n : Fin 5632) (r : Fin 512) : EReal :=
  cvq (aX m c (req p r)) (aG m c) (aM m c 4) (aM m c 3) (aW m c) (aK m c) (aB m c) n ⟨r % 256, by omega⟩

theorem tap_cvt (H : Vec Ideal S512x1024 .bf16) (p : Fin 8) (hH : ∀ q k, H (ix2 q k) = hrow m c p q k) (w : Vec Ideal S1024x1408 .bf16)
    (n : Fin 1408 → Fin 5632) (hw : ∀ k j, w (ix2 k j) = aW m c k (n j)) (u0 u1 u2 bi : Vec Ideal S1x1408 .f32)
    (h0 : ∀ j, u0 (ix2 0 j) = aK m c (n j) 0) (h1 : ∀ j, u1 (ix2 0 j) = aK m c (n j) 1) (h2 : ∀ j, u2 (ix2 0 j) = aK m c (n j) 2)
    (hb : ∀ j, bi (ix2 0 j) = aB m c (n j)) (r : Fin 512) (j : Fin 1408) :
    kconv (fun q => k0_pay6 H w (ix2 q j)) ![u0 (ix2 0 j), u1 (ix2 0 j), u2 (ix2 0 j)] r + bi (ix2 0 j) = cvt m c p (n j) r := by
  rw [kconv_eq _ (upq (aX m c (req p r)) (aG m c) (aM m c 4) (aM m c 3) (aW m c) (n j)) _ r (fun q hq => ?_), hb, h0, h1, h2]
  · rfl
  · rw [up_at]
    simp only [hH, hw]
    unfold hrow upq req
    simp only [hq]

/-- The term a hidden channel adds to the down-projection of a row. -/
def term (p : Fin 8) (r : Fin 512) (n : Fin 1024) (j : Fin 2816) : EReal :=
  acq (aX m c (req p r)) (aG m c) (aM m c 4) (aM m c 3) (aW m c) (aK m c) (aB m c) ⟨r % 256, by omega⟩ j * aD m c j n

/-- What one grid point adds to its pair. -/
def share (r : Fin 512) (n : Fin 1024) : EReal := ∑ j : Fin 1408, term m c (pair t) r n (lane t j)

theorem tapv (q : Fin 3) (u : Vec Ideal S1x1408 .f32) (hu : ∀ j, u (ix2 0 j) = (iblk m c 5 t : FVec Ideal S9x1408 .f32) (ix2 ⟨3 + q, by omega⟩ j))
    (j : Fin 1408) : u (ix2 0 j) = aK m c (vch (lane t j)) q := (hu j).trans (rd_kv m c t q j)

theorem tapg (q : Fin 3) (u : Vec Ideal S1x1408 .f32) (hu : ∀ j, u (ix2 0 j) = (iblk m c 6 t : FVec Ideal S9x1408 .f32) (ix2 ⟨3 + q, by omega⟩ j))
    (j : Fin 1408) : u (ix2 0 j) = aK m c (gch (lane t j)) q := (hu j).trans (rd_kg m c t q j)

/-- The gated hidden block of a grid point, from the normalised rows it holds. -/
def gated (H : Vec Ideal S512x1024 .bf16) : FVec Ideal S512x1408 .f32 :=
  k0_pay14
    (k0_pay11 k0_pay7
      (k0_pay8 H (iblk m c 3 t) (View.ld (iblk m c 5 t) (Rect.unit ![3, 0] ![1, 1408] inb_S9x1408_S1x1408_3_0)))
      (k0_pay9 H (iblk m c 3 t) (View.ld (iblk m c 5 t) (Rect.unit ![4, 0] ![1, 1408] inb_S9x1408_S1x1408_4_0)))
      (k0_pay10 H (iblk m c 3 t) (View.ld (iblk m c 5 t) (Rect.unit ![5, 0] ![1, 1408] inb_S9x1408_S1x1408_5_0))) 0#32 (iblk m c 7 t))
    (k0_pay12 H (iblk m c 4 t)) k0_pay13
    (View.ld (iblk m c 6 t) (Rect.unit ![3, 0] ![1, 1408] inb_S9x1408_S1x1408_3_0))
    (View.ld (iblk m c 6 t) (Rect.unit ![4, 0] ![1, 1408] inb_S9x1408_S1x1408_4_0))
    (View.ld (iblk m c 6 t) (Rect.unit ![5, 0] ![1, 1408] inb_S9x1408_S1x1408_5_0)) (iblk m c 8 t)

theorem share_at (H : Vec Ideal S512x1024 .bf16) (hH : ∀ q k, H (ix2 q k) = hrow m c (pair t) q k) (r : Fin 512) (n : Fin 1024) :
    ∑ j : Fin 1408, gated m c t H (ix2 r j) * (iblk m c 9 t : FVec Ideal S1408x1024 .bf16) (ix2 j n) = share m c t r n := by
  unfold share
  refine Finset.sum_congr rfl fun j _ => ?_
  unfold gated
  rw [col'_eq, up'_eq, gated_at, conv_at,
    tap_cvt m c H (pair t) hH _ (fun j => gch (lane t j)) (rd_wg m c t) _ _ _ _
      (tapg m c t 0 _ (fun j => by pointwise)) (tapg m c t 1 _ (fun j => by pointwise)) (tapg m c t 2 _ (fun j => by pointwise)) (rd_bg m c t) r j,
    tap_cvt m c H (pair t) hH _ (fun j => vch (lane t j)) (rd_wv m c t) _ _ _ _
      (tapv m c t 0 _ (fun j => by pointwise)) (tapv m c t 1 _ (fun j => by pointwise)) (tapv m c t 2 _ (fun j => by pointwise)) (rd_bv m c t) r j,
    rd_wd]
  rfl

theorem hA (e : t.val % 2 = 0) (r : Fin 512) (k : Fin 1024) : (outsAt0 m c t.val t.isLt).2.1 (ix2 r k) = hrow m c (pair t) r k := by
  rw [outsAt0_A m c t e e (by omega) (by omega)]
  frame_out
  exact hrow_at m c t r k

theorem accA (e : t.val % 2 = 0) (r : Fin 512) (n : Fin 1024) : (outsAt0 m c t.val t.isLt).2.2 (ix2 r n) = share m c t r n := by
  rw [outsAt0_A m c t e e (by omega) (by omega)]
  frame_out
  rw [down_at]
  exact share_at m c t _ (hrow_at m c t) r n

theorem outB (e : t.val % 2 = 1) (r : Fin 512) (n : Fin 1024) :
    (outsAt0 m c t.val t.isLt).1 (ix3 0 r n) = rms (fun l => aX m c (req (pair t) r) ⟨r % 256, by omega⟩ l + aM m c 5 l *
      ((outsAt0 m c (t.val - 1) (by omega)).2.2 (ix2 r l) + share m c t r l)) (aN m c) n := by
  have hp : ∀ q k, (outsAt0 m c (t.val - 1) (by omega)).2.1 (ix2 q k) = hrow m c (pair t) q k := by
    intro q k
    have hb : t.val - 1 < cfg0.N := lt_of_le_of_lt (Nat.sub_le _ _) t.isLt
    refine (hA m c ⟨t.val - 1, hb⟩ (by show (t.val - 1) % 2 = 0; omega) q k).trans ?_
    have e1 : pair ⟨t.val - 1, hb⟩ = pair t := Fin.ext (by unfold pair; simp only []; omega)
    rw [e1]
  rw [outsAt0_B m c t (by omega) (by omega) e e]
  frame_out
  simp only [read_unread_whole]
  rw [close_at]
  simp only [gt_at, rd_nf, rd_x, next_at]
  refine congrArg (fun f : Fin 1024 → EReal => rms f (aN m c) n) (funext fun l => ?_)
  exact congrArg (fun z : EReal => aX m c (req (pair t) r) ⟨r % 256, by omega⟩ l + aM m c 5 l *
    ((outsAt0 m c (t.val - 1) (by omega)).2.2 (ix2 r l) + z)) (share_at m c t _ hp r l)

/-- The reference's result, from the kernel's own arguments. -/
def ref : FVec Ideal S8x512x1024 .f32 :=
  Cert.FfpRefIdeal.Read.val_main_v82 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

theorem whole (e : t.val % 2 = 1) (r : Fin 512) (n : Fin 1024) :
    (outsAt0 m c (t.val - 1) (lt_of_le_of_lt (Nat.sub_le _ _) t.isLt)).2.2 (ix2 r n) + share m c t r n = ∑ j, term m c (pair t) r n j := by
  have hb : t.val - 1 < cfg0.N := lt_of_le_of_lt (Nat.sub_le _ _) t.isLt
  have e1 : pair ⟨t.val - 1, hb⟩ = pair t := Fin.ext (by unfold pair; simp only []; omega)
  have ha := accA m c ⟨t.val - 1, hb⟩ (by show (t.val - 1) % 2 = 0; omega) r n
  have hs : share m c ⟨t.val - 1, hb⟩ r n = ∑ j, term m c (pair t) r n (lane ⟨t.val - 1, hb⟩ j) := by
    unfold share
    rw [e1]
  rw [← halves (term m c (pair t) r n) (lane ⟨t.val - 1, hb⟩) (lane t)
    (fun j => by unfold lane; simp only []; omega) (fun j => by unfold lane; simp only []; omega)]
  exact congrArg₂ (· + ·) (ha.trans hs) rfl

theorem point (e : t.val % 2 = 1) (r : Fin 512) (n : Fin 1024) :
    (outsAt0 m c t.val t.isLt).1 (ix3 0 r n) = ref m c (ix3 (pair t) r n) := by
  rw [outB m c t e]
  unfold ref
  rw [Cert.FfpRefIdeal.RefValue.out_at, Cert.FfpRefIdeal.RefValue.row_at]
  unfold ffpOut
  refine congrArg (fun f : Fin 1024 → EReal => rms f (aN m c) n) (funext fun l => ?_)
  rw [whole m c t e]
  rfl

theorem final : (dats m 0 c).arrAt 11 (cfgs 0).N = ref m c := by
  refine (dats m 0 c).arrAt_eq_of_covers 11 _ (by decide +kernel) fun t hf y => ?_
  blk_simp
  rw [after0_11]
  obtain ⟨y0, y1, y2, rfl⟩ : ∃ (y0 : Fin 1) (y1 : Fin 512) (y2 : Fin 1024), y = ix3 y0 y1 y2 := ⟨y 0, y 1, y 2, eq_ix3 y⟩
  obtain rfl : y0 = 0 := Subsingleton.elim _ _
  refine (point m c t ((flush0_11 t).mp hf) y1 y2).trans ?_
  unfold pair
  congr 1
  blk_ext [idx t]

end Cert.FfpIdeal.Final
-- ==== Proof.FfpClaim.lean ====
/- The context feed-forward block's claims. -/
module

public import proofs.«01_k».proof.Defs
public import proofs.«01_k».proof.Proof.Gen.Ffp
public import proofs.«01_k».proof.Proof.Gen.Ffp.Frame
public import proofs.«01_k».proof.Proof.Gen.FfpIdeal
public import proofs.«01_k».proof.Proof.Gen.FfpIdeal.Frame
public import proofs.«01_k».proof.Proof.Gen.FfpRefIdeal
public import proofs.«01_k».proof.Proof.Gen.FfpRefIdeal.Run
public import proofs.«01_k».proof.Proof.Gen.FfpRefIdeal.Read
public import proofs.«01_k».proof.Proof.FfpValue
public import Idealize.ShloMosaic.Lib.Claim
public import Idealize.ShloMosaic.Lib.Quiescent

@[expose] public section

noncomputable section

namespace Cert.Proof

open Idealize.ShloMosaic Idealize.SL.Sem

theorem ffp_quiescent : Cert.quiescent_Ffp := fun m g _ => Cert.Ffp.Gen.frame m g

theorem ffpIdeal_quiescent : Cert.quiescent_FfpIdeal := fun m g _ => Cert.FfpIdeal.Gen.frame m g

theorem ffp_preserves : Cert.preserves_Ffp_FfpIdeal := trivial

theorem ffpRef_quiescent : Cert.quiescent_FfpRefIdeal := fun m g _ =>
  (θ_run Cert.FfpRefIdeal.defs _ _).mono (fun r h => ⟨fun c => (h c).2, sem_eq_zero_of_no_sems (by decide) r.2⟩)
    (Cert.FfpRefIdeal.Value.run (F := Ideal) m g)

theorem ffp_algebraic : Cert.algebraic_FfpIdeal_FfpRefIdeal := by
  pair_intro
  · run_from Cert.FfpIdeal.Gen.run_main m g
  · refine (θ_run _ _ _).mono (fun r h c => ⟨(h c).1.trans ?_, (h c).2⟩) (Cert.FfpRefIdeal.Value.run m' g')
    obtain ⟨h0, h1, h2, h3, h4, h5, h6, h7⟩ := hagree c
    refine (Cert.FfpRefIdeal.Read.val_main_v82_eq m' c).trans (Eq.trans ?_ (Cert.FfpIdeal.Final.final m c).symm)
    unfold Cert.FfpIdeal.Final.ref
    rw [h0, h1, h2, h3, h4, h5, h6, h7]

end Cert.Proof

end
-- ==== Proof.OutRefValue.lean ====
/- The mixer's output projection over the extended reals, and its reference read at an index. -/
module

public import proofs.«01_k».proof.Proof.SguSpec
public import proofs.«01_k».proof.Proof.Gen.OutRefIdeal.Read

@[expose] public section

set_option maxRecDepth 16384

noncomputable section

namespace Cert.Spec

/-- The residual row plus the gated output projection of the gated mixer row. -/
def projOut (x yn gt : Fin 1024 → EReal) (g : Fin 128 → EReal) (G : Fin 128 → Fin 1024 → EReal) (W : Fin 1024 → Fin 1024 → EReal)
    (n : Fin 1024) : EReal := x n + gt n * ∑ k, yn k * (∑ l, g l * G l k) * W k n

end Cert.Spec

namespace Cert.OutRefIdeal.RefValue

open Cert.OutRefIdeal Cert.OutRefIdeal.Gen Cert.OutRefIdeal.Read Idealize.ShloMosaic Idealize.ShloMosaic.TcCoe Idealize.SL.Sem
open Cert.Spec

variable (x0 : FVec Ideal S4x2048x1024 .f32) (x1 : FVec Ideal S4x256x64x128 .f32) (x2 : FVec Ideal S4x2048x128 .f32)
  (x3 : FVec Ideal S2x8x6144 .f32) (x4 : FVec Ideal S1x128x1024 .f32) (x5 : FVec Ideal S1x1024x1024 .f32)

/-- Lane `k` of token `t` in the tiled layout. -/
def tiled (b : Fin 4) (t : Fin 2048) (k : Fin 1024) : EReal :=
  x1 (ix4 b ⟨t / 8, by omega⟩ ⟨k / 128 * 8 + t % 8, by omega⟩ ⟨k % 128, by omega⟩)

theorem flat_at (b : Fin 4) (t : Fin 2048) (k : Fin 1024) : val_main_v11 (F := Ideal) x1 (ix3 b t k) =
    val_main_v10 (F := Ideal) x1 (ix5 b ⟨t / 8, by omega⟩ ⟨t % 8, by omega⟩ ⟨k / 128, by omega⟩ ⟨k % 128, by omega⟩) := by
  pointwise [val_main_v11]

theorem tiled_at (b : Fin 4) (t : Fin 2048) (k : Fin 1024) : val_main_v11 (F := Ideal) x1 (ix3 b t k) = tiled x1 b t k := by
  rw [flat_at]
  unfold tiled
  pointwise [val_main_v10, val_main_v9]

theorem mod_at (b : Fin 4) (z : Fin 1) (k : Fin 6144) :
    val_main_v2 (F := Ideal) x3 (ix3 b z k) = x3 (ix3 0 ⟨1 + b, by omega⟩ k) := by
  pointwise [val_main_v2, val_main_v1, val_main_v0]

theorem out_at (b : Fin 4) (t : Fin 2048) (n : Fin 1024) :
    val_main_v19 (F := Ideal) x0 x1 x2 x3 x4 x5 (ix3 b t n) = projOut (fun k => x0 (ix3 b t k)) (tiled x1 b t)
      (fun k => x3 (ix3 0 ⟨1 + b, by omega⟩ ⟨2048 + k, by omega⟩)) (fun l => x2 (ix3 b t l)) (fun l k => x4 (ix3 0 l k))
      (fun k n => x5 (ix3 0 k n)) n := by
  pointwise [val_main_v19, val_main_v18, val_main_v17, val_main_v16, val_main_v15, val_main_v14, val_main_v13, val_main_v12,
    val_main_v5, tiled_at, mod_at, projOut]

end Cert.OutRefIdeal.RefValue
-- ==== Proof.OutValue.lean ====
/- The output projection kernel's result array is the reference's: tiles of 512 tokens. -/
module

public import proofs.«01_k».proof.Proof.OutRefValue
public import proofs.«01_k».proof.Proof.Gen.OutIdeal.Value
public import Idealize.ShloMosaic.Lib.Pipeline.ValueKit
public import Idealize.ShloMosaic.Lib.Claim

@[expose] public section

set_option maxRecDepth 16384

noncomputable section

namespace Cert.OutIdeal.Final

open Cert.OutIdeal Cert.OutIdeal.Gen Idealize.ShloMosaic Idealize.ShloMosaic.TcCoe Idealize.SL.Sem
open Idealize.ShloMosaic.Pipeline (Dat)
open Cert.Spec

theorem gate_at (v : Vec Ideal S1x1x1024 .f32) (n : Fin 1024) : k0_pay2 v (ix2 0 n) = v (ix3 0 0 n) := by
  pointwise [k0_pay2]

theorem proj_at (v : Vec Ideal S1x512x128 .f32) (w : Vec Ideal S128x1024 .bf16) (r : Fin 512) (k : Fin 1024) :
    k0_pay3 v w (ix2 r k) = ∑ l : Fin 128, v (ix3 0 r l) * w (ix2 l k) := by
  pointwise [k0_pay3]

/-- Eight strips of 128 lanes side by side, each a strip of 8 x 128 tiles laid out as rows. -/
def strips (f : Fin 8 → Vec Ideal S1x64x8x128 .f32) (r : Fin 512) (k : Fin 1024) : EReal :=
  f ⟨k / 128, by omega⟩ (ix4 0 ⟨r / 8, by omega⟩ ⟨r % 8, by omega⟩ ⟨k % 128, by omega⟩)

theorem strips_of (f : Fin 8 → Vec Ideal S1x64x8x128 .f32) (r : Fin 512) (k : Fin 1024) (q : Fin 8) (j : Fin 128)
    (h : (k : ℕ) = 128 * q + j) : strips f r k = f q (ix4 0 ⟨r / 8, by omega⟩ ⟨r % 8, by omega⟩ j) := by
  have e1 : (⟨k / 128, by omega⟩ : Fin 8) = q := Fin.ext (by simp only; omega)
  have e2 : (⟨k % 128, by omega⟩ : Fin 128) = j := Fin.ext (by simp only; omega)
  unfold strips
  rw [e1, e2]

theorem body_at (gt : FVec Ideal S1x1024 .f32) (g : FVec Ideal S512x1024 .f32) (f : Fin 8 → Vec Ideal S1x64x8x128 .f32)
    (w : Vec Ideal S1024x1024 .bf16) (x : Vec Ideal S1x512x1024 .f32) (r : Fin 512) (n : Fin 1024) :
    k0_pay1 gt g (k0_pay4 (f 0)) (k0_pay5 (f 1)) (k0_pay6 (f 2)) (k0_pay7 (f 3)) (k0_pay8 (f 4)) (k0_pay9 (f 5)) (f 6) (f 7) w x (ix3 0 r n)
      = x (ix3 0 r n) + gt (ix2 0 n) * ∑ k : Fin 1024, strips f r k * g (ix2 r k) * w (ix2 k n) := by
  pointwise [k0_pay1, k0_pay4, k0_pay5, k0_pay6, k0_pay7, k0_pay8, k0_pay9]
  refine congrArg₂ (· + ·) rfl (congrArg₂ (· * ·) rfl (Finset.sum_congr rfl fun k _ => congrArg₂ (· * ·) (congrArg₂ (· * ·) ?_ rfl) rfl))
  split_ifs <;> first
    | exact (strips_of f r k 0 ⟨k, by omega⟩ (by show (k : ℕ) = 128 * 0 + (k); omega)).symm
    | exact (strips_of f r k 1 ⟨k - 128, by omega⟩ (by show (k : ℕ) = 128 * 1 + (k - 128); omega)).symm
    | exact (strips_of f r k 2 ⟨k - 128 - 128, by omega⟩ (by show (k : ℕ) = 128 * 2 + (k - 128 - 128); omega)).symm
    | exact (strips_of f r k 3 ⟨k - 128 - 128 - 128, by omega⟩ (by show (k : ℕ) = 128 * 3 + (k - 128 - 128 - 128); omega)).symm
    | exact (strips_of f r k 4 ⟨k - 128 - 128 - 128 - 128, by omega⟩ (by show (k : ℕ) = 128 * 4 + (k - 128 - 128 - 128 - 128); omega)).symm
    | exact (strips_of f r k 5 ⟨k - 128 - 128 - 128 - 128 - 128, by omega⟩ (by show (k : ℕ) = 128 * 5 + (k - 128 - 128 - 128 - 128 - 128); omega)).symm
    | exact (strips_of f r k 6 ⟨k - 128 - 128 - 128 - 128 - 128 - 128, by omega⟩ (by show (k : ℕ) = 128 * 6 + (k - 128 - 128 - 128 - 128 - 128 - 128); omega)).symm
    | exact (strips_of f r k 7 ⟨k - 128 - 128 - 128 - 128 - 128 - 128 - 128, by omega⟩ (by show (k : ℕ) = 128 * 7 + (k - 128 - 128 - 128 - 128 - 128 - 128 - 128); omega)).symm

theorem idx : ∀ t : Fin cfg0.N, win0_0.index t = ![t.val / 4, t.val % 4, 0] ∧ win0_1.index t = ![t.val / 4, t.val % 4, 0, 0]
    ∧ win0_2.index t = ![t.val / 4, t.val % 4, 0] ∧ win0_3.index t = ![t.val / 4, 0, 0] ∧ win0_4.index t = ![0, 0]
    ∧ win0_5.index t = ![0, 0] ∧ win0_6.index t = ![t.val / 4, t.val % 4, 0] :=
  (by decide +kernel : ∀ t : Fin grid0.N, _)

/-- The batch a grid point works on. -/
def bat (t : Fin cfg0.N) : Fin 4 := ⟨t.val / 4, by have h : t.val < 16 := lt_of_lt_of_eq t.isLt N_0; omega⟩
/-- The token a row of a grid point's block is. -/
def row (t : Fin cfg0.N) (r : Fin 512) : Fin 2048 := ⟨t.val % 4 * 512 + r, by omega⟩

variable (m : (ℓ : Loc nD τ sig) → Buf (Elt Ideal) ℓ) (c : Dev nD) (t : Fin cfg0.N)

theorem rd_x (r : Fin 512) (k : Fin 1024) : (iblk m c 0 t : FVec Ideal S1x512x1024 .f32) (ix3 0 r k) =
    (m ((c : Thread nD τ).loc main_arg0) : FVec Ideal S4x2048x1024 .f32) (ix3 (bat t) (row t r) k) := by
  unfold bat row
  blk_point [iblk, V, idx t]

theorem rd_y (a : Fin 64) (q : Fin 64) (k : Fin 128) : (iblk m c 1 t : FVec Ideal S1x64x64x128 .f32) (ix4 0 a q k) =
    (m ((c : Thread nD τ).loc main_arg1) : FVec Ideal S4x256x64x128 .f32) (ix4 (bat t) ⟨t.val % 4 * 64 + a, by omega⟩ q k) := by
  unfold bat
  blk_point [iblk, V, idx t]

theorem rd_g (r : Fin 512) (k : Fin 128) : (iblk m c 2 t : FVec Ideal S1x512x128 .f32) (ix3 0 r k) =
    (m ((c : Thread nD τ).loc main_arg2) : FVec Ideal S4x2048x128 .f32) (ix3 (bat t) (row t r) k) := by
  unfold bat row
  blk_point [iblk, V, idx t]

theorem rd_mod (k : Fin 6144) : (iblk m c 3 t : FVec Ideal S1x1x6144 .f32) (ix3 0 0 k) =
    (m ((c : Thread nD τ).loc main_arg3) : FVec Ideal S2x8x6144 .f32) (ix3 0 ⟨1 + bat t, by omega⟩ k) := by
  unfold bat
  blk_point [iblk, V, idx t]

theorem rd_g2 (l : Fin 128) (k : Fin 1024) : (iblk m c 4 t : FVec Ideal S128x1024 .bf16) (ix2 l k) =
    (m ((c : Thread nD τ).loc main_arg4) : FVec Ideal S1x128x1024 .f32) (ix3 0 l k) := by
  blk_point [iblk, V, idx t]

theorem rd_wo (l : Fin 1024) (k : Fin 1024) : (iblk m c 5 t : FVec Ideal S1024x1024 .bf16) (ix2 l k) =
    (m ((c : Thread nD τ).loc main_arg5) : FVec Ideal S1x1024x1024 .f32) (ix3 0 l k) := by
  blk_point [iblk, V, idx t]

/-- The reference's result, from the kernel's own arguments. -/
def ref : FVec Ideal S4x2048x1024 .f32 :=
  Cert.OutRefIdeal.Read.val_main_v19 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The strip of tiles a load takes: tile rows `8 q` to `8 q + 7`. -/
def strip (q : Fin 8) : Vec Ideal S1x64x8x128 .f32 :=
  match q with
  | ⟨0, _⟩ => View.ld (iblk m c 1 t) r0_3
  | ⟨1, _⟩ => View.ld (iblk m c 1 t) r0_4
  | ⟨2, _⟩ => View.ld (iblk m c 1 t) r0_5
  | ⟨3, _⟩ => View.ld (iblk m c 1 t) r0_6
  | ⟨4, _⟩ => View.ld (iblk m c 1 t) r0_7
  | ⟨5, _⟩ => View.ld (iblk m c 1 t) r0_8
  | ⟨6, _⟩ => View.ld (iblk m c 1 t) r0_9
  | ⟨7, _⟩ => View.ld (iblk m c 1 t) r0_10

theorem strip_at (q : Fin 8) (a : Fin 64) (u : Fin 8) (k : Fin 128) : strip m c t q (ix4 0 a u k) =
    (iblk m c 1 t : FVec Ideal S1x64x64x128 .f32) (ix4 0 a ⟨q * 8 + u, by omega⟩ k) := by
  match q with
  | ⟨0, _⟩ => unfold strip; pointwise
  | ⟨1, _⟩ => unfold strip; pointwise
  | ⟨2, _⟩ => unfold strip; pointwise
  | ⟨3, _⟩ => unfold strip; pointwise
  | ⟨4, _⟩ => unfold strip; pointwise
  | ⟨5, _⟩ => unfold strip; pointwise
  | ⟨6, _⟩ => unfold strip; pointwise
  | ⟨7, _⟩ => unfold strip; pointwise

theorem strips_at (r : Fin 512) (k : Fin 1024) : strips (strip m c t) r k =
    Cert.OutRefIdeal.RefValue.tiled (m ((c : Thread nD τ).loc main_arg1)) (bat t) (row t r) k := by
  unfold strips Cert.OutRefIdeal.RefValue.tiled
  rw [strip_at, rd_y]
  congr 1
  unfold row
  have e1 : t.val % 4 * 64 + (r : ℕ) / 8 = (t.val % 4 * 512 + r) / 8 := by omega
  have e2 : (t.val % 4 * 512 + (r : ℕ)) % 8 = r % 8 := by omega
  simp only [e1, e2]

theorem point (r : Fin 512) (n : Fin 1024) :
    out0_6 (iblk m c 0 t) (iblk m c 1 t) (iblk m c 2 t) (iblk m c 3 t) (iblk m c 4 t) (iblk m c 5 t) (ix3 0 r n)
      = ref m c (ix3 (bat t) (row t r) n) := by
  unfold out0_6 r0_12
  rw [View.canon_cons_unit_lit _ _ _ (by decide)]
  refine (body_at (k0_pay2 (View.ld (iblk m c 3 t) r0_0)) (k0_pay3 (View.ld (iblk m c 2 t) r0_1) (View.ld (iblk m c 4 t) r0_2))
    (strip m c t) (View.ld (iblk m c 5 t) r0_11) (View.ld (iblk m c 0 t) r0_12) r n).trans ?_
  unfold ref
  rw [Cert.OutRefIdeal.RefValue.out_at]
  unfold projOut
  simp only [gate_at, proj_at, strips_at]
  pointwise [rd_x, rd_g, rd_mod, rd_g2, rd_wo]

theorem final : (dats m 0 c).arrAt 6 (cfgs 0).N = ref m c := by
  refine (dats m 0 c).arrAt_eq_of_covers 6 _ (by decide +kernel) fun t hf y => ?_
  blk_simp
  rw [after0_6]
  obtain ⟨y0, y1, y2, rfl⟩ : ∃ (y0 : Fin 1) (y1 : Fin 512) (y2 : Fin 1024), y = ix3 y0 y1 y2 := ⟨y 0, y 1, y 2, eq_ix3 y⟩
  obtain rfl : y0 = 0 := Subsingleton.elim _ _
  refine (point m c t y1 y2).trans ?_
  unfold bat row
  congr 1
  blk_ext [idx t]

end Cert.OutIdeal.Final
-- ==== Proof.OutClaim.lean ====
/- The output projection's claims. -/
module

public import proofs.«01_k».proof.Defs
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.OutValue
public import Idealize.ShloMosaic.Lib.Claim
public import Idealize.ShloMosaic.Lib.Quiescent

@[expose] public section

noncomputable section

namespace Cert.Proof

open Idealize.ShloMosaic Idealize.SL.Sem

theorem out_quiescent : Cert.quiescent_Out := fun m g _ => Cert.Out.Gen.frame m g

theorem outIdeal_quiescent : Cert.quiescent_OutIdeal := fun m g _ => Cert.OutIdeal.Gen.frame m g

theorem out_preserves : Cert.preserves_Out_OutIdeal := trivial

theorem outRef_quiescent : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

theorem out_algebraic : Cert.algebraic_OutIdeal_OutRefIdeal := by
  pair_intro
  · run_from Cert.OutIdeal.Gen.run_main m g
  · refine (θ_run _ _ _).mono (fun r h c => ⟨(h c).1.trans ?_, (h c).2⟩) (Cert.OutRefIdeal.Value.run m' g')
    obtain ⟨h0, h1, h2, h3, h4, h5⟩ := hagree c
    refine (Cert.OutRefIdeal.Read.val_main_v19_eq _ _ _ _ _ _).trans (Eq.trans ?_ (Cert.OutIdeal.Final.final m c).symm)
    unfold Cert.OutIdeal.Final.ref
    rw [← h0, ← h1, ← h2, ← h3, ← h4, ← h5]

end Cert.Proof

end
-- ==== Proof.ProjSpec.lean ====
/- The time mix's projections over the extended reals: token shift by both neighbours, three square projections, the
   output gate, and per direction a low-rank decay and a low-rank rate. -/
module

public import proofs.«01_k».proof.Proof.FfnSpec

@[expose] public section

noncomputable section

namespace Cert.Spec

open Idealize.ShloMosaic

/-- The value one token earlier in a sequence of 2048, zero before the first. -/
def past (u : Fin 2048 → EReal) (t : Fin 2048) : EReal :=
  if h : 1 ≤ (t : ℕ) ∧ (t : ℕ) - 1 < 2047 then u ⟨t - 1, by omega⟩ else 0

/-- The value one token later, zero after the last. -/
def coming (u : Fin 2048 → EReal) (t : Fin 2048) : EReal :=
  if h : (t : ℕ) < 2047 then u ⟨1 + t, by omega⟩ else 0

/-- A token mixed with its two neighbours, by the weights `p` and `q` per channel. -/
def mixed (h : Fin 2048 → Fin 1024 → EReal) (p q : Fin 1024 → EReal) (t : Fin 2048) (k : Fin 1024) : EReal :=
  h t k + (past (fun s => h s k) t - h t k) * p k + (coming (fun s => h s k) t - h t k) * q k

/-- A mixed token projected by one column. -/
def projd (h : Fin 2048 → Fin 1024 → EReal) (p q : Fin 1024 → EReal) (t : Fin 2048) (w : Fin 1024 → EReal) : EReal :=
  ∑ k, mixed h p q t k * w k

/-- The logistic function. -/
def logis (z : EReal) : EReal :=
  Ideal.div (Ideal.ofBits .f32 0x3F800000#32) (Ideal.ofBits .f32 0x3F800000#32 + Ideal.exp (-z))

/-- The softplus function as the reference spells it out. -/
def softplus (y : EReal) : EReal :=
  Scalar.select (Ideal.cmp .une (y - Ideal.ofBits .f32 0x00000000#32) (y - Ideal.ofBits .f32 0x00000000#32))
    (y + Ideal.ofBits .f32 0x00000000#32)
    (max y (Ideal.ofBits .f32 0x00000000#32)
      + Ideal.log1p (Ideal.exp (-(max (y - Ideal.ofBits .f32 0x00000000#32) (-(y - Ideal.ofBits .f32 0x00000000#32))))))

theorem bits_zero : Ideal.ofBits .f32 0x00000000#32 = 0 := by
  simp [Ideal.ofBits, Ideal.ieee]

theorem bits_one : Ideal.ofBits .f32 0x3F800000#32 = 1 := by
  simp [Ideal.ofBits, Ideal.ieee, -EReal.coe_mul]; norm_num

/-- In the real numbers, e to the minus softplus of -r is the logistic function of r. -/
theorem real_softplus (r : ℝ) :
    Real.exp (-(max (-r) 0 + Real.log (1 + Real.exp (-(max (-r) r))))) = (1 + Real.exp (-r))⁻¹ := by
  have hp : 0 < 1 + Real.exp (-(max (-r) r)) := by positivity
  rw [Real.exp_neg, Real.exp_add, Real.exp_log hp]
  congr 1
  rcases le_total 0 r with h | h
  · rw [max_eq_right (by linarith), max_eq_right (by linarith), Real.exp_zero, one_mul]
  · rw [max_eq_left (by linarith), max_eq_left (by linarith), mul_add, mul_one, ← Real.exp_add, neg_neg,
      neg_add_cancel, Real.exp_zero, add_comm]

/-- e to the minus softplus of -z is the logistic function of z, at the infinities as well. -/
theorem exp_softplus (z : EReal) : Ideal.exp (-(softplus (-z))) = logis z := by
  have hs : ∀ y : EReal, softplus y = max y 0 + Ideal.log1p (Ideal.exp (-(max y (-y)))) := by
    intro y
    unfold softplus
    rw [bits_zero]
    simp [Ideal.cmp, Scalar.select]
  have hl : logis z = Ideal.logistic z := by unfold logis Ideal.logistic; rw [bits_one]
  have hm : ∀ a b : ℝ, max (a : EReal) b = ((max a b : ℝ) : EReal) := fun a b => (EReal.coe_strictMono.monotone.map_max).symm
  have h1 : Ideal.log 1 = 0 := by rw [← EReal.coe_one, Ideal.log_coe, if_neg (by norm_num), Real.log_one, EReal.coe_zero]
  rw [hs, hl, neg_neg]
  induction z with
  | bot => simp [Ideal.log1p, h1]
  | top =>
    have h0 : Ideal.exp 0 = 1 := by rw [← EReal.coe_zero, Ideal.exp_coe, Real.exp_zero, EReal.coe_one]
    simp [Ideal.log1p, h1, h0]
  | coe r =>
    rw [Ideal.logistic_coe, ← real_softplus, ← EReal.coe_neg, hm, ← EReal.coe_neg, Ideal.exp_coe,
      Ideal.log1p, ← EReal.coe_one, ← EReal.coe_add, Ideal.log_coe, if_neg (by have := Real.exp_pos (-(max (-r) r)); linarith),
      ← EReal.coe_zero, hm, ← EReal.coe_add, ← EReal.coe_neg, Ideal.exp_coe]

/-- The decay of a raw weight. -/
def decayed (z : EReal) : EReal := Ideal.exp (Ideal.ofBits .f32 0xBF1B4598#32 * logis z)

/-- The second factor of a low-rank map, with its bias. -/
def lifted (b : EReal) (u w : Fin 64 → EReal) : EReal := b + ∑ l, u l * w l

end Cert.Spec
-- ==== Proof.ProjPart.lean ====
/- The projections kernel's body read at an index: the norm, the two neighbour rows, the products and the tiled stores. -/
module

public import proofs.«01_k».proof.Proof.ProjSpec
public import proofs.«01_k».proof.Proof.Gen.ProjIdeal.Value
public import Idealize.ShloMosaic.Lib.Pipeline.ValueKit

@[expose] public section

set_option maxRecDepth 16384

noncomputable section

namespace Cert.ProjIdeal.Part

open Cert.ProjIdeal Cert.ProjIdeal.Gen Idealize.ShloMosaic Idealize.ShloMosaic.TcCoe Idealize.SL.Sem
open Cert.Spec

theorem norm_at (g : Vec Ideal S1x1024 .f32) (sh sc : Vec Ideal S1x1x1024 .f32) (x : Vec Ideal S1x256x1024 .f32) (r : Fin 256) (k : Fin 1024) :
    k0_pay5 g sh sc x (ix2 r k) = normMod (fun k => x (ix3 0 r k)) (fun k => g (ix2 0 k)) (fun k => sc (ix3 0 0 k)) (fun k => sh (ix3 0 0 k)) k := by
  pointwise [k0_pay5, k0_pay2, k0_pay3, k0_pay4, normMod]

theorem pick (b : BitVec 1) (x y : FVec Ideal S1x1024 .f32) (j : S1x1024.Idx) : Scalar.select b x y j = if b = 1#1 then x j else y j := by
  by_cases h : b = 1#1
  · rw [if_pos h, h]
    rfl
  · rw [if_neg h]
    exact congrFun (if_neg h) j

theorem sel (b : BitVec 1) (x y : EReal) : Scalar.select b x y = if b = 1#1 then x else y := rfl

theorem is_last (q : Fin 8) : (Scalar.cmpi .eq (BitVec.ofNat 32 (q : ℕ)) 7#32 = 1#1) = ((q : ℕ) = 7) := by
  refine propext ?_
  revert q
  decide +kernel

theorem is_first (q : Fin 8) : (Scalar.cmpi .eq (BitVec.ofNat 32 (q : ℕ)) 0#32 = 1#1) = ((q : ℕ) = 0) := by
  refine propext ?_
  revert q
  decide +kernel

theorem row_first (r : Fin 256) : (IntOp.cmpi .eq (BitVec.ofNat 32 (r : ℕ)) 0#32 = 1#1) = ((r : ℕ) = 0) := by
  refine propext ?_
  revert r
  decide +kernel

theorem row_last (r : Fin 256) : (IntOp.cmpi .eq (BitVec.ofNat 32 (r : ℕ)) 255#32 = 1#1) = ((r : ℕ) = 255) := by
  refine propext ?_
  revert r
  decide +kernel

/-- The row after the tile: the first of the eight rows loaded, zero after the last tile. -/
theorem follow_at (q : Fin 8) (g sh sc : FVec Ideal S1x1024 .f32) (x : Vec Ideal S1x8x1024 .f32) (k : Fin 1024) :
    k0_pay8 (BitVec.ofNat 32 (q : ℕ)) g sh sc x (ix2 0 k) = if (q : ℕ) = 7 then 0 else
      normMod (fun k => x (ix3 0 0 k)) (fun k => g (ix2 0 k)) (fun k => sc (ix2 0 k)) (fun k => sh (ix2 0 k)) k := by
  unfold k0_pay8
  refine (pick _ _ _ _).trans ?_
  refine if_congr (is_last q).to_iff ?_ ?_
  · pointwise
  · pointwise [normMod]

/-- The mixed-in row before the tile and the rows of the tile one further down. -/
theorem back_at (q : Fin 8) (g sh sc : FVec Ideal S1x1024 .f32) (h : FVec Ideal S256x1024 .f32) (x : Vec Ideal S1x8x1024 .f32) (r : Fin 256) (k : Fin 1024) :
    k0_pay9 (BitVec.ofNat 32 (q : ℕ)) g sh sc h (k0_pay6 x) (k0_pay7 x) (ix2 r k) = if (r : ℕ) = 0 then (if (q : ℕ) = 0 then 0 else
      normMod (fun k => x (ix3 0 7 k)) (fun k => g (ix2 0 k)) (fun k => sc (ix2 0 k)) (fun k => sh (ix2 0 k)) k)
      else h (ix2 ⟨((r : ℕ) + 256 - 1) % 256, by omega⟩ k) := by
  pointwise [k0_pay9, pick, k0_pay6, k0_pay7, normMod]
  simp only [sel, row_first, is_first]

theorem ahead_at (h : FVec Ideal S256x1024 .f32) (v : FVec Ideal S1x1024 .f32) (r : Fin 256) (k : Fin 1024) :
    k0_pay11 h v (iota .tc S256x1 32 [0] iota_S256x1_d0_w32) (ix2 r k) =
      (if (r : ℕ) = 255 then v (ix2 0 k) else h (ix2 ⟨((r : ℕ) + 256 - 255) % 256, by omega⟩ k)) - h (ix2 r k) := by
  pointwise [k0_pay11]
  simp only [sel, row_last]

/-- A tile's rows mixed with their neighbours' differences. -/
def shifted (h p q : FVec Ideal S256x1024 .f32) (a b : Vec Ideal S1x1x1024 .f32) (r : Fin 256) (k : Fin 1024) : EReal :=
  h (ix2 r k) + p (ix2 r k) * a (ix3 0 0 k) + q (ix2 r k) * b (ix3 0 0 k)

theorem r_at (h : FVec Ideal S256x1024 .f32) (v : FVec Ideal S1x1024 .f32) (i : IVec S256x1 32) (u : FVec Ideal S256x1024 .f32)
    (a b : Vec Ideal S1x1x1024 .f32) (w : Vec Ideal S1024x1024 .bf16) (r : Fin 256) (n : Fin 1024) :
    k0_pay12 h v i u a b w (ix2 r n) = ∑ k : Fin 1024, shifted h (k0_pay10 h u) (k0_pay11 h v i) a b r k * w (ix2 k n) := by
  pointwise [k0_pay12, shifted]

theorem k_at (h p q : FVec Ideal S256x1024 .f32) (a b : Vec Ideal S1x1x1024 .f32) (w : Vec Ideal S1024x1024 .bf16) (r : Fin 256) (n : Fin 1024) :
    k0_pay23 h p q (k0_pay22 a) b w (ix2 r n) = ∑ k : Fin 1024, shifted h p q a b r k * w (ix2 k n) := by
  pointwise [k0_pay23, k0_pay22, shifted]

theorem v_at (h p q : FVec Ideal S256x1024 .f32) (a b : Vec Ideal S1x1x1024 .f32) (w : Vec Ideal S1024x1024 .bf16) (r : Fin 256) (n : Fin 1024) :
    k0_pay35 (k0_pay33 w) (k0_pay34 h p q a b) (constant S256x1024 .f32 0x00000000#32) (ix2 r n)
      = ∑ k : Fin 1024, shifted h p q a b r k * w (ix2 k n) := by
  pointwise [k0_pay35, k0_pay33, k0_pay34, shifted]

theorem g_at (h p q : FVec Ideal S256x1024 .f32) (a b : Vec Ideal S1x1x1024 .f32) (w : Vec Ideal S1024x128 .bf16) (r : Fin 256) (n : Fin 128) :
    k0_pay44 h p q a b w (ix3 0 r n) = logis (∑ k : Fin 1024, shifted h p q a b r k * w (ix2 k n)) := by
  pointwise [k0_pay44, shifted, logis]
  simp only [zero_sub]

theorem wlow_at (h p q : FVec Ideal S256x1024 .f32) (a b : Vec Ideal S1x1x1024 .f32) (w : Vec Ideal S1024x128 .bf16) (r : Fin 256) (n : Fin 128) :
    k0_pay45 h p q a b w (ix2 r n) = Ideal.tanh (∑ k : Fin 1024, shifted h p q a b r k * w (ix2 k n)) := by
  pointwise [k0_pay45, shifted]

theorem alow_at (h p q : FVec Ideal S256x1024 .f32) (a b : Vec Ideal S1x1x1024 .f32) (w : Vec Ideal S1024x128 .bf16) (r : Fin 256) (n : Fin 128) :
    k0_pay46 h p q a b w (ix2 r n) = ∑ k : Fin 1024, shifted h p q a b r k * w (ix2 k n) := by
  pointwise [k0_pay46, shifted]

/-- Lane `l` of the second direction's half. -/
def upper (l : Fin 64) : Fin 128 := ⟨64 + l, by omega⟩
/-- Lane `l` of the first direction's half. -/
def lower (l : Fin 64) : Fin 128 := ⟨l, by omega⟩

theorem decay0_at (b : Vec Ideal S1x1024 .f32) (w : Vec Ideal S1x64x1024 .bf16) (h p q : FVec Ideal S256x1024 .f32) (a0 a1 : Vec Ideal S1x1x1024 .f32)
    (w1 : Vec Ideal S1024x128 .bf16) (r : Fin 256) (n : Fin 1024) :
    k0_pay50 (k0_pay47 b) (k0_pay48 w) (k0_pay49 h p q a0 a1 w1) (constant S256x1024 .f32 0x00000000#32) (ix2 r n)
      = decayed (lifted (b (ix2 0 n)) (fun l => k0_pay45 h p q a0 a1 w1 (ix2 r (lower l))) (fun l => w (ix3 0 l n))) := by
  pointwise [k0_pay50, k0_pay47, k0_pay48, k0_pay49, decayed, logis, lifted, lower]
  simp only [zero_sub]

theorem decay1_at (u : FVec Ideal S256x128 .f32) (b : Vec Ideal S1x1024 .f32) (w : Vec Ideal S1x64x1024 .bf16) (r : Fin 256) (n : Fin 1024) :
    k0_pay71 u b w (ix2 r n) = decayed (lifted (b (ix2 0 n)) (fun l => u (ix2 r (upper l))) (fun l => w (ix3 0 l n))) := by
  pointwise [k0_pay71, decayed, logis, lifted, upper]
  simp only [zero_sub]

theorem rate0_at (u : FVec Ideal S256x128 .f32) (b : Vec Ideal S1x1024 .f32) (w : Vec Ideal S1x64x1024 .bf16) (r : Fin 256) (n : Fin 1024) :
    k0_pay61 (k0_pay60 u b w) (Scalar.ofBits .f32 0x3F800000#32) (ix2 r n) = logis (lifted (b (ix2 0 n)) (fun l => u (ix2 r (lower l))) (fun l => w (ix3 0 l n))) := by
  pointwise [k0_pay61, k0_pay60, logis, lifted, lower]
  simp only [zero_sub]

theorem rate1_at (u : FVec Ideal S256x128 .f32) (b : Vec Ideal S1x1024 .f32) (w : Vec Ideal S1x64x1024 .bf16) (r : Fin 256) (n : Fin 1024) :
    k0_pay80 u b w (ix2 r n) = logis (lifted (b (ix2 0 n)) (fun l => u (ix2 r (upper l))) (fun l => w (ix3 0 l n))) := by
  pointwise [k0_pay80, logis, lifted, upper]
  simp only [zero_sub]

/-- A strip of 128 lanes from lane `o`, its rows laid out as tiles of eight. -/
def strip (o : ℕ) (h : S256x1024.Slices ![0, o] S256x128) (v : FVec Ideal S256x1024 .f32) : FVec Ideal S1x32x8x128 .f32 :=
  shapeCast S1x32x8x128 (shapeCast S32x8x128 (extractStridedSlice S256x128 ![0, o] v h) shapeCasts_S256x128_S32x8x128) shapeCasts_S32x8x128_S1x32x8x128

theorem strip_at (o : ℕ) (h : S256x1024.Slices ![0, o] S256x128) (ho : o ≤ 896) (v : FVec Ideal S256x1024 .f32) (z : Fin 1) (a : Fin 32) (u : Fin 8) (l : Fin 128) :
    strip o h v (ix4 z a u l) = v (ix2 ⟨a * 8 + u, by omega⟩ ⟨o + l, by omega⟩) := by
  obtain rfl : z = 0 := Subsingleton.elim _ _
  pointwise [strip]

/-- The eight strip stores of one array. -/
def stored (v : FVec Ideal S256x1024 .f32) : Vec Ideal S1x32x64x128 .f32 :=
  View.canon [⟨r0_15, strip 896 slices_S256x1024_o0_896_S256x128 v⟩, ⟨r0_14, strip 768 slices_S256x1024_o0_768_S256x128 v⟩,
    ⟨r0_13, strip 640 slices_S256x1024_o0_640_S256x128 v⟩, ⟨r0_12, strip 512 slices_S256x1024_o0_512_S256x128 v⟩,
    ⟨r0_11, strip 384 slices_S256x1024_o0_384_S256x128 v⟩, ⟨r0_10, strip 256 slices_S256x1024_o0_256_S256x128 v⟩,
    ⟨r0_9, strip 128 slices_S256x1024_o0_128_S256x128 v⟩, ⟨r0_8, strip 0 slices_S256x1024_o0_0_S256x128 v⟩]

/-- They leave the tiled layout of the array. -/
theorem stored_at (v : FVec Ideal S256x1024 .f32) (a : Fin 32) (u : Fin 64) (l : Fin 128) :
    stored v (ix4 0 a u l) = v (ix2 ⟨a * 8 + u % 8, by omega⟩ ⟨u / 8 * 128 + l, by omega⟩) := by
  have key : ∀ (o : ℕ) (h : S256x1024.Slices ![0, o] S256x128) (x : S1x32x8x128.Idx), o ≤ 896 → (a : ℕ) = x 1 → (u : ℕ) = o / 128 * 8 + x 2 →
      (l : ℕ) = x 3 → o % 128 = 0 → strip o h v x = v (ix2 ⟨a * 8 + u % 8, by omega⟩ ⟨u / 8 * 128 + l, by omega⟩) := by
    intro o h x ho h1 h2 h3 hm
    obtain ⟨x0, x1, x2, x3, rfl⟩ : ∃ (x0 : Fin 1) (x1 : Fin 32) (x2 : Fin 8) (x3 : Fin 128), x = ix4 x0 x1 x2 x3 := ⟨x 0, x 1, x 2, x 3, eq_ix4 x⟩
    rw [strip_at o h ho]
    have h1' : (a : ℕ) = x1 := h1
    have h2' : (u : ℕ) = o / 128 * 8 + x2 := h2
    have h3' : (l : ℕ) = x3 := h3
    have e1 : (x1 : ℕ) * 8 + x2 = a * 8 + u % 8 := by omega
    have e2 : o + (x3 : ℕ) = u / 8 * 128 + l := by omega
    simp only [e1, e2]
  unfold stored
  canon_tiles x h
  all_goals exact key _ _ x (by omega) (by simpa using h1) (by simpa using h2) (by simpa using h3) (by omega)

end Cert.ProjIdeal.Part
-- ==== Proof.ProjRefValue.lean ====
/- The time mix's projections reference read at an index. -/
module

public import proofs.«01_k».proof.Proof.ProjSpec
public import proofs.«01_k».proof.Proof.Gen.ProjRefIdeal.Read

@[expose] public section

set_option maxRecDepth 16384

noncomputable section

namespace Cert.ProjRefIdeal.RefValue

open Cert.ProjRefIdeal Cert.ProjRefIdeal.Gen Cert.ProjRefIdeal.Read Idealize.ShloMosaic Idealize.ShloMosaic.TcCoe Idealize.SL.Sem
open Cert.Spec

variable (x0 : FVec Ideal S4x2048x1024 .f32) (x1 : FVec Ideal S2x8x6144 .f32) (x2 : FVec Ideal S2x1024 .f32)
  (x3 : FVec Ideal S1x2x6x1024 .f32) (x4 x5 x6 : FVec Ideal S1x1024x1024 .f32) (x7 : FVec Ideal S1x2x1024 .f32)
  (x8 : FVec Ideal S1x2x1024x64 .f32) (x9 : FVec Ideal S1x2x64x1024 .f32) (x10 : FVec Ideal S1x2x1024 .f32)
  (x11 : FVec Ideal S1x2x1024x64 .f32) (x12 : FVec Ideal S1x2x64x1024 .f32) (x13 : FVec Ideal S1x1024x128 .f32)

/-- Section `s` (of 1024) of a sample's modulation row. -/
def md (b : Fin 4) (s : Fin 6) (k : Fin 1024) : EReal := x1 (ix3 0 ⟨1 + b, by omega⟩ ⟨1024 * s + k, by omega⟩)

/-- The normalised and modulated tokens of sample `b`. -/
def hr (b : Fin 4) (t : Fin 2048) (k : Fin 1024) : EReal :=
  normMod (fun k => x0 (ix3 b t k)) (fun k => x2 (ix2 0 k)) (md x1 b 1) (md x1 b 0) k

/-- The mixing weight of input `s` for the earlier (`e = 0`) or the later neighbour. -/
def mu (e : Fin 2) (s : Fin 6) (k : Fin 1024) : EReal := x3 (ix4 0 e s k)

theorem norm_at (b : Fin 4) (t : Fin 2048) (k : Fin 1024) : val_main_v29 (F := Ideal) x0 x1 x2 (ix3 b t k) = hr x0 x1 x2 b t k := by
  unfold hr
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, normMod, md,
    val_main_cst, val_main_cst_0, val_main_cst_1, val_main_cst_2]

theorem zero_word : (FloatOps.sitofp (F := Ideal) .f32 0#32 : EReal) = 0 := by
  show ((((0#32 : BitVec 32).toInt : ℝ)) : EReal) = 0
  simp

theorem past_at (b : Fin 4) (t : Fin 2048) (k : Fin 1024) :
    val_main_v31 (F := Ideal) x0 x1 x2 (ix3 b t k) = past (fun t => hr x0 x1 x2 b t k) t := by
  pointwise [val_main_v31, val_main_v30, val_main_call0_v0, val_main_c, norm_at, past, zero_word]

theorem coming_at (b : Fin 4) (t : Fin 2048) (k : Fin 1024) :
    val_main_v33 (F := Ideal) x0 x1 x2 (ix3 b t k) = coming (fun t => hr x0 x1 x2 b t k) t := by
  pointwise [val_main_v33, val_main_v32, val_main_call1_v0, val_main_c_3, norm_at, coming, zero_word]

theorem mixed_r (b : Fin 4) (t : Fin 2048) (k : Fin 1024) :
    val_main_v48 (F := Ideal) x0 x1 x2 x3 (ix3 b t k) = mixed (hr x0 x1 x2 b) (mu x3 0 0) (mu x3 1 0) t k := by
  unfold mu
  pointwise [val_main_v48, val_main_v47, val_main_v46, val_main_v45, val_main_v44, val_main_v43, val_main_v42, val_main_v41, val_main_v40, val_main_v39, val_main_v38, val_main_v37, val_main_v36, val_main_v35, val_main_v34, norm_at, past_at, coming_at, mixed]

theorem mixed_w (b : Fin 4) (t : Fin 2048) (k : Fin 1024) :
    val_main_v62 (F := Ideal) x0 x1 x2 x3 (ix3 b t k) = mixed (hr x0 x1 x2 b) (mu x3 0 1) (mu x3 1 1) t k := by
  unfold mu
  pointwise [val_main_v62, val_main_v61, val_main_v60, val_main_v59, val_main_v58, val_main_v57, val_main_v56, val_main_v55, val_main_v54, val_main_v53, val_main_v52, val_main_v51, val_main_v50, val_main_v49, val_main_v34, norm_at, past_at, coming_at, mixed]

theorem mixed_k (b : Fin 4) (t : Fin 2048) (k : Fin 1024) :
    val_main_v76 (F := Ideal) x0 x1 x2 x3 (ix3 b t k) = mixed (hr x0 x1 x2 b) (mu x3 0 2) (mu x3 1 2) t k := by
  unfold mu
  pointwise [val_main_v76, val_main_v75, val_main_v74, val_main_v73, val_main_v72, val_main_v71, val_main_v70, val_main_v69, val_main_v68, val_main_v67, val_main_v66, val_main_v65, val_main_v64, val_main_v63, val_main_v34, norm_at, past_at, coming_at, mixed]

theorem mixed_v (b : Fin 4) (t : Fin 2048) (k : Fin 1024) :
    val_main_v90 (F := Ideal) x0 x1 x2 x3 (ix3 b t k) = mixed (hr x0 x1 x2 b) (mu x3 0 3) (mu x3 1 3) t k := by
  unfold mu
  pointwise [val_main_v90, val_main_v89, val_main_v88, val_main_v87, val_main_v86, val_main_v85, val_main_v84, val_main_v83, val_main_v82, val_main_v81, val_main_v80, val_main_v79, val_main_v78, val_main_v77, val_main_v34, norm_at, past_at, coming_at, mixed]

theorem mixed_a (b : Fin 4) (t : Fin 2048) (k : Fin 1024) :
    val_main_v104 (F := Ideal) x0 x1 x2 x3 (ix3 b t k) = mixed (hr x0 x1 x2 b) (mu x3 0 4) (mu x3 1 4) t k := by
  unfold mu
  pointwise [val_main_v104, val_main_v103, val_main_v102, val_main_v101, val_main_v100, val_main_v99, val_main_v98, val_main_v97, val_main_v96, val_main_v95, val_main_v94, val_main_v93, val_main_v92, val_main_v91, val_main_v34, norm_at, past_at, coming_at, mixed]

theorem mixed_g (b : Fin 4) (t : Fin 2048) (k : Fin 1024) :
    val_main_v118 (F := Ideal) x0 x1 x2 x3 (ix3 b t k) = mixed (hr x0 x1 x2 b) (mu x3 0 5) (mu x3 1 5) t k := by
  unfold mu
  pointwise [val_main_v118, val_main_v117, val_main_v116, val_main_v115, val_main_v114, val_main_v113, val_main_v112, val_main_v111, val_main_v110, val_main_v109, val_main_v108, val_main_v107, val_main_v106, val_main_v105, val_main_v34, norm_at, past_at, coming_at, mixed]

theorem r_at (b : Fin 4) (t : Fin 2048) (n : Fin 1024) :
    val_main_v120 (F := Ideal) x0 x1 x2 x3 x4 (ix3 b t n) =
      projd (hr x0 x1 x2 b) (mu x3 0 0) (mu x3 1 0) t (fun k => x4 (ix3 0 k n)) := by
  pointwise [val_main_v120, val_main_v119, mixed_r, projd]

theorem k_at (b : Fin 4) (t : Fin 2048) (n : Fin 1024) :
    val_main_v122 (F := Ideal) x0 x1 x2 x3 x5 (ix3 b t n) =
      projd (hr x0 x1 x2 b) (mu x3 0 2) (mu x3 1 2) t (fun k => x5 (ix3 0 k n)) := by
  pointwise [val_main_v122, val_main_v121, mixed_k, projd]

theorem v_at (b : Fin 4) (t : Fin 2048) (n : Fin 1024) :
    val_main_v124 (F := Ideal) x0 x1 x2 x3 x6 (ix3 b t n) =
      projd (hr x0 x1 x2 b) (mu x3 0 3) (mu x3 1 3) t (fun k => x6 (ix3 0 k n)) := by
  pointwise [val_main_v124, val_main_v123, mixed_v, projd]

theorem g_at (b : Fin 4) (t : Fin 2048) (n : Fin 128) :
    val_main_v132 (F := Ideal) x0 x1 x2 x3 x13 (ix3 b t n) =
      logis (projd (hr x0 x1 x2 b) (mu x3 0 5) (mu x3 1 5) t (fun k => x13 (ix3 0 k n))) := by
  pointwise [val_main_v132, val_main_v131, val_main_v130, val_main_v129, val_main_v128, val_main_v127, val_main_v126, val_main_v125, val_main_cst_4, val_main_cst_5, mixed_g, projd, logis]

theorem raw0_at (b : Fin 4) (t : Fin 2048) (n : Fin 1024) :
    val_main_v144 (F := Ideal) x0 x1 x2 x3 x7 x8 x9 (ix3 b t n) = lifted (x7 (ix3 0 0 n))
      (fun l => Ideal.tanh (projd (hr x0 x1 x2 b) (mu x3 0 1) (mu x3 1 1) t (fun k => x8 (ix4 0 0 k l)))) (fun l => x9 (ix4 0 0 l n)) := by
  pointwise [val_main_v144, val_main_v143, val_main_v142, val_main_v141, val_main_v140, val_main_v139, val_main_v138, val_main_v137, val_main_v136, val_main_v135, val_main_v134, val_main_v133, mixed_w, projd, lifted]

theorem decay0_at (b : Fin 4) (t : Fin 2048) (n : Fin 1024) :
    val_main_v163 (F := Ideal) x0 x1 x2 x3 x7 x8 x9 (ix3 b t n) = decayed (lifted (x7 (ix3 0 0 n))
      (fun l => Ideal.tanh (projd (hr x0 x1 x2 b) (mu x3 0 1) (mu x3 1 1) t (fun k => x8 (ix4 0 0 k l)))) (fun l => x9 (ix4 0 0 l n))) := by
  unfold decayed
  rw [← exp_softplus]
  pointwise [val_main_v163, val_main_v162, val_main_v161, val_main_v160, val_main_v159, val_main_v158, val_main_v157, val_main_call2_v11, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_cst_6, raw0_at, softplus]
  rfl

theorem raw1_at (b : Fin 4) (t : Fin 2048) (n : Fin 1024) :
    val_main_v156 (F := Ideal) x0 x1 x2 x3 x7 x8 x9 (ix3 b t n) = lifted (x7 (ix3 0 1 n))
      (fun l => Ideal.tanh (projd (hr x0 x1 x2 b) (mu x3 0 1) (mu x3 1 1) t (fun k => x8 (ix4 0 1 k l)))) (fun l => x9 (ix4 0 1 l n)) := by
  pointwise [val_main_v156, val_main_v155, val_main_v154, val_main_v153, val_main_v152, val_main_v151, val_main_v150, val_main_v149, val_main_v148, val_main_v147, val_main_v146, val_main_v145, mixed_w, projd, lifted]

theorem decay1_at (b : Fin 4) (t : Fin 2048) (n : Fin 1024) :
    val_main_v170 (F := Ideal) x0 x1 x2 x3 x7 x8 x9 (ix3 b t n) = decayed (lifted (x7 (ix3 0 1 n))
      (fun l => Ideal.tanh (projd (hr x0 x1 x2 b) (mu x3 0 1) (mu x3 1 1) t (fun k => x8 (ix4 0 1 k l)))) (fun l => x9 (ix4 0 1 l n))) := by
  unfold decayed
  rw [← exp_softplus]
  pointwise [val_main_v170, val_main_v169, val_main_v168, val_main_v167, val_main_v166, val_main_v165, val_main_v164, val_main_call3_v11, val_main_call3_v10, val_main_call3_v9, val_main_call3_v8, val_main_call3_v7, val_main_call3_v6, val_main_call3_v5, val_main_call3_v4, val_main_call3_v3, val_main_call3_v2, val_main_call3_v1, val_main_call3_v0, val_main_call3_cst, val_main_cst_7, raw1_at, softplus]
  rfl

theorem rate0_at (b : Fin 4) (t : Fin 2048) (n : Fin 1024) :
    val_main_v187 (F := Ideal) x0 x1 x2 x3 x10 x11 x12 (ix3 b t n) = logis (lifted (x10 (ix3 0 0 n))
      (fun l => projd (hr x0 x1 x2 b) (mu x3 0 4) (mu x3 1 4) t (fun k => x11 (ix4 0 0 k l))) (fun l => x12 (ix4 0 0 l n))) := by
  pointwise [val_main_v187, val_main_v186, val_main_v185, val_main_v184, val_main_v183, val_main_v182, val_main_v181, val_main_v180, val_main_v179, val_main_v178, val_main_v177, val_main_v176, val_main_v175, val_main_v174, val_main_v173, val_main_v172, val_main_v171, val_main_cst_8, val_main_cst_9, mixed_a, projd, lifted, logis]

theorem rate1_at (b : Fin 4) (t : Fin 2048) (n : Fin 1024) :
    val_main_v204 (F := Ideal) x0 x1 x2 x3 x10 x11 x12 (ix3 b t n) = logis (lifted (x10 (ix3 0 1 n))
      (fun l => projd (hr x0 x1 x2 b) (mu x3 0 4) (mu x3 1 4) t (fun k => x11 (ix4 0 1 k l))) (fun l => x12 (ix4 0 1 l n))) := by
  pointwise [val_main_v204, val_main_v203, val_main_v202, val_main_v201, val_main_v200, val_main_v199, val_main_v198, val_main_v197, val_main_v196, val_main_v195, val_main_v194, val_main_v193, val_main_v192, val_main_v191, val_main_v190, val_main_v189, val_main_v188, val_main_cst_10, val_main_cst_11, mixed_a, projd, lifted, logis]

/-- The token a row of tiles holds: tile row `a`, row `v` of the 64. -/
def tok (a : Fin 256) (v : Fin 64) : Fin 2048 := ⟨a * 8 + v % 8, by omega⟩
/-- The channel a lane of tiles holds. -/
def chan (v : Fin 64) (l : Fin 128) : Fin 1024 := ⟨v / 8 * 128 + l, by omega⟩

theorem r_tiled (b : Fin 4) (a : Fin 256) (v : Fin 64) (l : Fin 128) : val_main_v207 (F := Ideal) x0 x1 x2 x3 x4 (ix4 b a v l) =
    val_main_v120 (F := Ideal) x0 x1 x2 x3 x4 (ix3 b (tok a v) (chan v l)) := by
  unfold tok chan
  pointwise [val_main_v207, val_main_v206, val_main_v205]

theorem k_tiled (b : Fin 4) (a : Fin 256) (v : Fin 64) (l : Fin 128) : val_main_v210 (F := Ideal) x0 x1 x2 x3 x5 (ix4 b a v l) =
    val_main_v122 (F := Ideal) x0 x1 x2 x3 x5 (ix3 b (tok a v) (chan v l)) := by
  unfold tok chan
  pointwise [val_main_v210, val_main_v209, val_main_v208]

theorem v_tiled (b : Fin 4) (a : Fin 256) (v : Fin 64) (l : Fin 128) : val_main_v213 (F := Ideal) x0 x1 x2 x3 x6 (ix4 b a v l) =
    val_main_v124 (F := Ideal) x0 x1 x2 x3 x6 (ix3 b (tok a v) (chan v l)) := by
  unfold tok chan
  pointwise [val_main_v213, val_main_v212, val_main_v211]

theorem decay0_tiled (b : Fin 4) (a : Fin 256) (v : Fin 64) (l : Fin 128) : val_main_v216 (F := Ideal) x0 x1 x2 x3 x7 x8 x9 (ix4 b a v l) =
    val_main_v163 (F := Ideal) x0 x1 x2 x3 x7 x8 x9 (ix3 b (tok a v) (chan v l)) := by
  unfold tok chan
  pointwise [val_main_v216, val_main_v215, val_main_v214]

theorem decay1_tiled (b : Fin 4) (a : Fin 256) (v : Fin 64) (l : Fin 128) : val_main_v219 (F := Ideal) x0 x1 x2 x3 x7 x8 x9 (ix4 b a v l) =
    val_main_v170 (F := Ideal) x0 x1 x2 x3 x7 x8 x9 (ix3 b (tok a v) (chan v l)) := by
  unfold tok chan
  pointwise [val_main_v219, val_main_v218, val_main_v217]

theorem rate0_tiled (b : Fin 4) (a : Fin 256) (v : Fin 64) (l : Fin 128) : val_main_v222 (F := Ideal) x0 x1 x2 x3 x10 x11 x12 (ix4 b a v l) =
    val_main_v187 (F := Ideal) x0 x1 x2 x3 x10 x11 x12 (ix3 b (tok a v) (chan v l)) := by
  unfold tok chan
  pointwise [val_main_v222, val_main_v221, val_main_v220]

theorem rate1_tiled (b : Fin 4) (a : Fin 256) (v : Fin 64) (l : Fin 128) : val_main_v225 (F := Ideal) x0 x1 x2 x3 x10 x11 x12 (ix4 b a v l) =
    val_main_v204 (F := Ideal) x0 x1 x2 x3 x10 x11 x12 (ix3 b (tok a v) (chan v l)) := by
  unfold tok chan
  pointwise [val_main_v225, val_main_v224, val_main_v223]

end Cert.ProjRefIdeal.RefValue
-- ==== Proof.ProjRows.lean ====
/- The rows a grid point of the projections kernel works on: a tile of 256 tokens, the token before and the token after. -/
module

public import proofs.«01_k».proof.Proof.ProjPart
public import proofs.«01_k».proof.Proof.ProjRefValue
public import Idealize.ShloMosaic.Lib.Pipeline.ValueKit
public import Idealize.ShloMosaic.Lib.Claim

@[expose] public section

set_option maxRecDepth 16384

noncomputable section

namespace Cert.ProjIdeal.Rows

open Cert.ProjIdeal Cert.ProjIdeal.Gen Idealize.ShloMosaic Idealize.ShloMosaic.TcCoe Idealize.SL.Sem
open Idealize.ShloMosaic.Pipeline (Dat)
open Cert.Spec Cert.ProjIdeal.Part
open Cert.ProjRefIdeal.RefValue (hr mu md tok chan)

theorem idx : ∀ t : Fin cfg0.N, win0_0.index t = ![t.val / 8, t.val % 8, 0] ∧ win0_1.index t = ![t.val / 8, t.val % 8 * 32 - 1, 0]
    ∧ win0_2.index t = ![t.val / 8, min (t.val % 8 * 32 + 32) 255, 0] ∧ win0_3.index t = ![t.val / 8, 0, 0] ∧ win0_4.index t = ![0, 0]
    ∧ win0_5.index t = ![0, 0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![0, 0, 0] ∧ win0_13.index t = ![0, 0, 0] ∧ win0_14.index t = ![0, 0] ∧ win0_15.index t = ![0, 0] :=
  (by decide +kernel : ∀ t : Fin grid0.N, _)

theorem odx : ∀ t : Fin cfg0.N, win0_16.index t = ![t.val / 8, t.val % 8, 0, 0] ∧ win0_17.index t = ![t.val / 8, t.val % 8, 0, 0]
    ∧ win0_18.index t = ![t.val / 8, t.val % 8, 0, 0] ∧ win0_19.index t = ![t.val / 8, t.val % 8, 0, 0]
    ∧ win0_20.index t = ![t.val / 8, t.val % 8, 0, 0] ∧ win0_21.index t = ![t.val / 8, t.val % 8, 0, 0]
    ∧ win0_22.index t = ![t.val / 8, t.val % 8, 0, 0] ∧ win0_23.index t = ![t.val / 8, t.val % 8, 0] :=
  (by decide +kernel : ∀ t : Fin grid0.N, _)

theorem step : ∀ t : Fin cfg0.N, (grid0.coords t 1).val = t.val % 8 := (by decide +kernel : ∀ t : Fin grid0.N, _)

variable (m : (ℓ : Loc nD τ sig) → Buf (Elt Ideal) ℓ) (c : Dev nD) (t : Fin cfg0.N)

/-- The sample a grid point works on. -/
def bat : Fin 4 := ⟨t.val / 8, by have h : t.val < 32 := lt_of_lt_of_eq t.isLt N_0; omega⟩
/-- The tile of tokens a grid point works on. -/
def til : Fin 8 := ⟨t.val % 8, by omega⟩
/-- The token a row of a grid point's block is. -/
def row (r : Fin 256) : Fin 2048 := ⟨t.val % 8 * 256 + r, by omega⟩

/-- The arguments as launched. -/
def aX : FVec Ideal S4x2048x1024 .f32 := m ((c : Thread nD τ).loc main_arg0)
def aM : FVec Ideal S2x8x6144 .f32 := m ((c : Thread nD τ).loc main_arg1)
def aG : FVec Ideal S2x1024 .f32 := m ((c : Thread nD τ).loc main_arg2)
def aU : FVec Ideal S1x2x6x1024 .f32 := m ((c : Thread nD τ).loc main_arg3)
def aR : FVec Ideal S1x1024x1024 .f32 := m ((c : Thread nD τ).loc main_arg4)
def aK : FVec Ideal S1x1024x1024 .f32 := m ((c : Thread nD τ).loc main_arg5)
def aV : FVec Ideal S1x1024x1024 .f32 := m ((c : Thread nD τ).loc main_arg6)
def aW0 : FVec Ideal S1x2x1024 .f32 := m ((c : Thread nD τ).loc main_arg7)
def aW1 : FVec Ideal S1x2x1024x64 .f32 := m ((c : Thread nD τ).loc main_arg8)
def aW2 : FVec Ideal S1x2x64x1024 .f32 := m ((c : Thread nD τ).loc main_arg9)
def aA0 : FVec Ideal S1x2x1024 .f32 := m ((c : Thread nD τ).loc main_arg10)
def aA1 : FVec Ideal S1x2x1024x64 .f32 := m ((c : Thread nD τ).loc main_arg11)
def aA2 : FVec Ideal S1x2x64x1024 .f32 := m ((c : Thread nD τ).loc main_arg12)
def aG1 : FVec Ideal S1x1024x128 .f32 := m ((c : Thread nD τ).loc main_arg13)

/-- Window reads: each staged block at an index, from the arguments. -/
theorem rd_x (r : Fin 256) (k : Fin 1024) : (iblk m c 0 t : FVec Ideal S1x256x1024 .f32) (ix3 0 r k) = aX m c (ix3 (bat t) (row t r) k) := by
  unfold aX bat row
  blk_point [iblk, V, idx t]

theorem rd_xp (q : Fin 8) (k : Fin 1024) : (iblk m c 1 t : FVec Ideal S1x8x1024 .f32) (ix3 0 q k) = aX m c (ix3 (bat t) ⟨(t.val % 8 * 32 - 1) * 8 + q, by omega⟩ k) := by
  unfold aX bat
  blk_point [iblk, V, idx t]

theorem rd_xn (q : Fin 8) (k : Fin 1024) : (iblk m c 2 t : FVec Ideal S1x8x1024 .f32) (ix3 0 q k) = aX m c (ix3 (bat t) ⟨min (t.val % 8 * 32 + 32) 255 * 8 + q, by omega⟩ k) := by
  unfold aX bat
  blk_point [iblk, V, idx t]

theorem rd_mod (k : Fin 6144) : (iblk m c 3 t : FVec Ideal S1x1x6144 .f32) (ix3 0 0 k) = aM m c (ix3 0 ⟨1 + bat t, by omega⟩ k) := by
  unfold aM bat
  blk_point [iblk, V, idx t]

theorem rd_nw (k : Fin 1024) : (iblk m c 4 t : FVec Ideal S1x1024 .f32) (ix2 0 k) = aG m c (ix2 0 k) := by
  unfold aG
  blk_point [iblk, V, idx t]

theorem rd_mu (e : Fin 2) (s : Fin 6) (k : Fin 1024) : (iblk m c 5 t : FVec Ideal S2x6x1024 .f32) (ix3 e s k) = aU m c (ix4 0 e s k) := by
  unfold aU
  blk_point [iblk, V, idx t]

theorem rd_wr (k : Fin 1024) (n : Fin 1024) : (iblk m c 6 t : FVec Ideal S1024x1024 .bf16) (ix2 k n) = aR m c (ix3 0 k n) := by
  unfold aR
  blk_point [iblk, V, idx t]

theorem rd_wk (k : Fin 1024) (n : Fin 1024) : (iblk m c 7 t : FVec Ideal S1024x1024 .bf16) (ix2 k n) = aK m c (ix3 0 k n) := by
  unfold aK
  blk_point [iblk, V, idx t]

theorem rd_wv (k : Fin 1024) (n : Fin 1024) : (iblk m c 8 t : FVec Ideal S1024x1024 .bf16) (ix2 k n) = aV m c (ix3 0 k n) := by
  unfold aV
  blk_point [iblk, V, idx t]

theorem rd_w1 (k : Fin 1024) (j : Fin 128) : (iblk m c 9 t : FVec Ideal S1024x128 .bf16) (ix2 k j) =
    (V m c main_v11 : FVec Ideal S1024x128 .bf16) (ix2 k j) := by
  blk_point [iblk, idx t]

theorem rd_w1lo (k : Fin 1024) (l : Fin 64) : (iblk m c 9 t : FVec Ideal S1024x128 .bf16) (ix2 k (lower l)) = aW1 m c (ix4 0 0 k l) := by
  rw [rd_w1]
  unfold aW1 lower
  blk_simp [V]
  entry_read
  pointwise

theorem rd_w1hi (k : Fin 1024) (l : Fin 64) : (iblk m c 9 t : FVec Ideal S1024x128 .bf16) (ix2 k (upper l)) = aW1 m c (ix4 0 1 k l) := by
  rw [rd_w1]
  unfold aW1 upper
  blk_simp [V]
  entry_read
  pointwise

theorem rd_a1 (k : Fin 1024) (j : Fin 128) : (iblk m c 10 t : FVec Ideal S1024x128 .bf16) (ix2 k j) =
    (V m c main_v17 : FVec Ideal S1024x128 .bf16) (ix2 k j) := by
  blk_point [iblk, idx t]

theorem rd_a1lo (k : Fin 1024) (l : Fin 64) : (iblk m c 10 t : FVec Ideal S1024x128 .bf16) (ix2 k (lower l)) = aA1 m c (ix4 0 0 k l) := by
  rw [rd_a1]
  unfold aA1 lower
  blk_simp [V]
  entry_read
  pointwise

theorem rd_a1hi (k : Fin 1024) (l : Fin 64) : (iblk m c 10 t : FVec Ideal S1024x128 .bf16) (ix2 k (upper l)) = aA1 m c (ix4 0 1 k l) := by
  rw [rd_a1]
  unfold aA1 upper
  blk_simp [V]
  entry_read
  pointwise

theorem rd_g1 (k : Fin 1024) (n : Fin 128) : (iblk m c 11 t : FVec Ideal S1024x128 .bf16) (ix2 k n) = aG1 m c (ix3 0 k n) := by
  unfold aG1
  blk_point [iblk, V, idx t]

theorem rd_w2 (d : Fin 2) (l : Fin 64) (n : Fin 1024) : (iblk m c 12 t : FVec Ideal S2x64x1024 .bf16) (ix3 d l n) = aW2 m c (ix4 0 d l n) := by
  unfold aW2
  blk_point [iblk, V, idx t]

theorem rd_a2 (d : Fin 2) (l : Fin 64) (n : Fin 1024) : (iblk m c 13 t : FVec Ideal S2x64x1024 .bf16) (ix3 d l n) = aA2 m c (ix4 0 d l n) := by
  unfold aA2
  blk_point [iblk, V, idx t]

theorem rd_w0 (d : Fin 2) (n : Fin 1024) : (iblk m c 14 t : FVec Ideal S2x1024 .f32) (ix2 d n) = aW0 m c (ix3 0 d n) := by
  unfold aW0
  blk_point [iblk, V, idx t]

theorem rd_a0 (d : Fin 2) (n : Fin 1024) : (iblk m c 15 t : FVec Ideal S2x1024 .f32) (ix2 d n) = aA0 m c (ix3 0 d n) := by
  unfold aA0
  blk_point [iblk, V, idx t]

/-- The normalised and modulated tokens of the grid point's sample. -/
def hs (s : Fin 2048) (k : Fin 1024) : EReal := hr (aX m c) (aM m c) (aG m c) (bat t) s k

theorem sc_at (k : Fin 1024) : (View.ld (iblk m c 3 t) r0_2 : FVec Ideal S1x1x1024 .f32) (ix3 0 0 k) = md (aM m c) (bat t) 1 k := by
  unfold md
  pointwise [rd_mod]

theorem sh_at (k : Fin 1024) : (View.ld (iblk m c 3 t) r0_1 : FVec Ideal S1x1x1024 .f32) (ix3 0 0 k) = md (aM m c) (bat t) 0 k := by
  unfold md
  pointwise [rd_mod]

theorem nw_at (k : Fin 1024) : (View.ld (iblk m c 4 t) r0_0 : FVec Ideal S1x1024 .f32) (ix2 0 k) = aG m c (ix2 0 k) := by
  pointwise [rd_nw]

theorem x_at (r : Fin 256) (k : Fin 1024) : (View.ld (iblk m c 0 t) r0_3 : FVec Ideal S1x256x1024 .f32) (ix3 0 r k) =
    aX m c (ix3 (bat t) (row t r) k) := by
  pointwise [rd_x]

theorem xp_at (q : Fin 8) (k : Fin 1024) : (View.ld (iblk m c 1 t) r0_4 : FVec Ideal S1x8x1024 .f32) (ix3 0 q k) =
    aX m c (ix3 (bat t) ⟨(t.val % 8 * 32 - 1) * 8 + q, by omega⟩ k) := by
  pointwise [rd_xp]

theorem xn_at (q : Fin 8) (k : Fin 1024) : (View.ld (iblk m c 2 t) r0_4 : FVec Ideal S1x8x1024 .f32) (ix3 0 q k) =
    aX m c (ix3 (bat t) ⟨min (t.val % 8 * 32 + 32) 255 * 8 + q, by omega⟩ k) := by
  pointwise [rd_xn]

/-- The tile's rows, normalised and modulated. -/
def H : FVec Ideal S256x1024 .f32 := k0_pay5 (View.ld (iblk m c 4 t) r0_0) (View.ld (iblk m c 3 t) r0_1) (View.ld (iblk m c 3 t) r0_2) (View.ld (iblk m c 0 t) r0_3)

theorem H_at (r : Fin 256) (k : Fin 1024) : H m c t (ix2 r k) = hs m c t (row t r) k := by
  unfold H
  rw [norm_at]
  simp only [sc_at, sh_at, nw_at, x_at]
  rfl

/-- The tile's rows one token earlier. -/
def B : FVec Ideal S256x1024 .f32 := k0_pay9 (BitVec.ofNat 32 (grid0.coords t 1).val) (k0_pay2 (View.ld (iblk m c 4 t) r0_0))
  (k0_pay3 (View.ld (iblk m c 3 t) r0_1)) (k0_pay4 (View.ld (iblk m c 3 t) r0_2)) (H m c t) (k0_pay6 (View.ld (iblk m c 1 t) r0_4)) (k0_pay7 (View.ld (iblk m c 1 t) r0_4))

/-- The one row after the tile. -/
def A : FVec Ideal S1x1024 .f32 := k0_pay8 (BitVec.ofNat 32 (grid0.coords t 1).val) (k0_pay2 (View.ld (iblk m c 4 t) r0_0))
  (k0_pay3 (View.ld (iblk m c 3 t) r0_1)) (k0_pay4 (View.ld (iblk m c 3 t) r0_2)) (View.ld (iblk m c 2 t) r0_4)

theorem g1_at (k : Fin 1024) : k0_pay2 (View.ld (iblk m c 4 t) r0_0) (ix2 0 k) = aG m c (ix2 0 k) := by
  pointwise [k0_pay2, rd_nw]

theorem sh1_at (k : Fin 1024) : k0_pay3 (View.ld (iblk m c 3 t) r0_1) (ix2 0 k) = md (aM m c) (bat t) 0 k := by
  unfold md
  pointwise [k0_pay3, rd_mod]

theorem sc1_at (k : Fin 1024) : k0_pay4 (View.ld (iblk m c 3 t) r0_2) (ix2 0 k) = md (aM m c) (bat t) 1 k := by
  unfold md
  pointwise [k0_pay4, rd_mod]

theorem B_at (r : Fin 256) (k : Fin 1024) : B m c t (ix2 r k) = past (fun s => hs m c t s k) (row t r) := by
  have ht : t.val < 32 := lt_of_lt_of_eq t.isLt N_0
  unfold B
  rw [step t]
  refine (back_at (til t) _ _ _ _ _ r k).trans ?_
  simp only [g1_at, sh1_at, sc1_at, xp_at, H_at]
  unfold past
  by_cases h : (r : ℕ) = 0
  · rw [if_pos h]
    by_cases h' : ((til t : Fin 8) : ℕ) = 0
    · rw [if_pos h', dif_neg (by unfold til at h'; unfold row; simp only at h' ⊢; omega)]
    · rw [if_neg h', dif_pos (by unfold til at h'; unfold row; simp only at h' ⊢; omega)]
      have e : ∀ h1 h2, (⟨(t.val % 8 * 32 - 1) * 8 + ((7 : Fin 8) : ℕ), h1⟩ : Fin 2048) = ⟨(row t r : ℕ) - 1, h2⟩ := by
        intro h1 h2
        apply Fin.ext
        unfold til at h'
        unfold row
        show (t.val % 8 * 32 - 1) * 8 + 7 = t.val % 8 * 256 + r - 1
        simp only at h'
        omega
      rw [e]
      rfl
  · rw [if_neg h, dif_pos (by unfold row; simp only; omega)]
    congr 1
    apply Fin.ext
    unfold row
    simp only
    omega

theorem A_at (k : Fin 1024) : A m c t (ix2 0 k) = coming (fun s => hs m c t s k) (row t 255) := by
  have ht : t.val < 32 := lt_of_lt_of_eq t.isLt N_0
  unfold A
  rw [step t]
  refine (follow_at (til t) _ _ _ _ k).trans ?_
  simp only [g1_at, sh1_at, sc1_at, xn_at]
  unfold coming
  by_cases h' : ((til t : Fin 8) : ℕ) = 7
  · rw [if_pos h', dif_neg (by unfold til at h'; unfold row; show ¬ t.val % 8 * 256 + 255 < 2047; simp only at h'; omega)]
  · have hlt : (row t 255 : ℕ) < 2047 := by unfold til at h'; unfold row; show t.val % 8 * 256 + 255 < 2047; simp only at h'; omega
    rw [if_neg h', dif_pos hlt]
    have e : ∀ h1 h2, (⟨min (t.val % 8 * 32 + 32) 255 * 8 + ((0 : Fin 8) : ℕ), h1⟩ : Fin 2048) = ⟨1 + (row t 255 : ℕ), h2⟩ := by
      intro h1 h2
      apply Fin.ext
      unfold til at h'
      unfold row
      show min (t.val % 8 * 32 + 32) 255 * 8 + 0 = 1 + (t.val % 8 * 256 + 255)
      simp only at h'
      omega
    rw [e]
    rfl

/-- What a row differs by from the earlier token, and from the later one. -/
def P : FVec Ideal S256x1024 .f32 := k0_pay10 (H m c t) (B m c t)
def Q : FVec Ideal S256x1024 .f32 := k0_pay11 (H m c t) (A m c t) (iota .tc S256x1 32 [0] iota_S256x1_d0_w32)

theorem P_at (r : Fin 256) (k : Fin 1024) : P m c t (ix2 r k) = past (fun s => hs m c t s k) (row t r) - hs m c t (row t r) k := by
  unfold P
  pointwise [k0_pay10, B_at, H_at]

theorem Q_at (r : Fin 256) (k : Fin 1024) : Q m c t (ix2 r k) = coming (fun s => hs m c t s k) (row t r) - hs m c t (row t r) k := by
  unfold Q
  rw [ahead_at]
  simp only [A_at, H_at]
  refine congrArg (fun z : EReal => z - hs m c t (row t r) k) ?_
  by_cases h : (r : ℕ) = 255
  · rw [if_pos h]
    have e : r = 255 := Fin.ext h
    rw [e]
  · have hlt : (row t r : ℕ) < 2047 := by unfold row; simp only; omega
    rw [if_neg h]
    unfold coming
    rw [dif_pos hlt]
    refine congrArg (fun s => hs m c t s k) (Fin.ext ?_)
    unfold row
    simp only
    omega

theorem shifted_at (a b : Vec Ideal S1x1x1024 .f32) (s : Fin 6) (ha : ∀ k, a (ix3 0 0 k) = (iblk m c 5 t : FVec Ideal S2x6x1024 .f32) (ix3 0 s k))
    (hb : ∀ k, b (ix3 0 0 k) = (iblk m c 5 t : FVec Ideal S2x6x1024 .f32) (ix3 1 s k)) (r : Fin 256) (k : Fin 1024) :
    shifted (H m c t) (P m c t) (Q m c t) a b r k = mixed (hs m c t) (mu (aU m c) 0 s) (mu (aU m c) 1 s) (row t r) k := by
  unfold shifted mixed mu
  rw [H_at, P_at, Q_at, ha, hb, rd_mu, rd_mu]

end Cert.ProjIdeal.Rows
-- ==== Proof.ProjTile.lean ====
/- The projections kernel's tile values in terms of the arguments, and the stores that lay them out. -/
module

public import proofs.«01_k».proof.Proof.ProjRows
public import Idealize.ShloMosaic.Lib.Claim

@[expose] public section

set_option maxRecDepth 16384

noncomputable section

namespace Cert.ProjIdeal.Tile

open Cert.ProjIdeal Cert.ProjIdeal.Gen Idealize.ShloMosaic Idealize.ShloMosaic.TcCoe Idealize.SL.Sem
open Idealize.ShloMosaic.Pipeline (Dat)
open Cert.Spec Cert.ProjIdeal.Part Cert.ProjIdeal.Rows
open Cert.ProjRefIdeal.RefValue (hr mu md tok chan)

variable (m : (ℓ : Loc nD τ sig) → Buf (Elt Ideal) ℓ) (c : Dev nD) (t : Fin cfg0.N)

/-- The tile's values before they are stored: the three projections, then the two low-rank inner factors. -/
def vr : FVec Ideal S256x1024 .f32 := k0_pay12 (H m c t) (A m c t) (iota .tc S256x1 32 [0] iota_S256x1_d0_w32) (B m c t) (View.ld (iblk m c 5 t) r0_5) (View.ld (iblk m c 5 t) r0_6) (View.ld (iblk m c 6 t) r0_7)
def vk : FVec Ideal S256x1024 .f32 := k0_pay23 (H m c t) (P m c t) (Q m c t) (k0_pay22 (View.ld (iblk m c 5 t) r0_16)) (View.ld (iblk m c 5 t) r0_17) (View.ld (iblk m c 7 t) r0_7)
def vv : FVec Ideal S256x1024 .f32 := k0_pay35 (k0_pay33 (View.ld (iblk m c 8 t) r0_7)) (k0_pay34 (H m c t) (P m c t) (Q m c t) (View.ld (iblk m c 5 t) r0_18) (View.ld (iblk m c 5 t) r0_19)) (constant S256x1024 .f32 0x00000000#32)
def lw : FVec Ideal S256x128 .f32 := k0_pay45 (H m c t) (P m c t) (Q m c t) (View.ld (iblk m c 5 t) r0_24) (View.ld (iblk m c 5 t) r0_25) (View.ld (iblk m c 9 t) r0_22)
def la : FVec Ideal S256x128 .f32 := k0_pay46 (H m c t) (P m c t) (Q m c t) (View.ld (iblk m c 5 t) r0_26) (View.ld (iblk m c 5 t) r0_27) (View.ld (iblk m c 10 t) r0_22)

/-- The two directions' decays and rates. -/
def vd0 : FVec Ideal S256x1024 .f32 := k0_pay50 (k0_pay47 (View.ld (iblk m c 14 t) r0_28)) (k0_pay48 (View.ld (iblk m c 12 t) r0_29)) (k0_pay49 (H m c t) (P m c t) (Q m c t) (View.ld (iblk m c 5 t) r0_24) (View.ld (iblk m c 5 t) r0_25) (View.ld (iblk m c 9 t) r0_22)) (constant S256x1024 .f32 0x00000000#32)
def vd1 : FVec Ideal S256x1024 .f32 := k0_pay71 (lw m c t) (View.ld (iblk m c 14 t) r0_30) (View.ld (iblk m c 12 t) r0_31)
def va0 : FVec Ideal S256x1024 .f32 := k0_pay61 (k0_pay60 (la m c t) (View.ld (iblk m c 15 t) r0_28) (View.ld (iblk m c 13 t) r0_29)) (Scalar.ofBits .f32 0x3F800000#32)
def va1 : FVec Ideal S256x1024 .f32 := k0_pay80 (la m c t) (View.ld (iblk m c 15 t) r0_30) (View.ld (iblk m c 13 t) r0_31)

theorem out_r : out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (vr m c t) := by
  unfold_out out0_16
  rfl

theorem out_k : out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (vk m c t) := by
  unfold_out out0_17
  rfl

theorem out_v : out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (vv m c t) := by
  unfold_out out0_18
  rfl

theorem out_d0 : out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (vd0 m c t) := by
  unfold_out out0_19
  rfl

theorem out_d1 : out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (vd1 m c t) := by
  unfold_out out0_20
  rfl

theorem out_a0 : out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (va0 m c t) := by
  unfold_out out0_21
  rfl

theorem out_a1 : out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) = stored (va1 m c t) := by
  unfold_out out0_22
  rfl

theorem vr_at (r : Fin 256) (n : Fin 1024) : vr m c t (ix2 r n) =
    projd (hs m c t) (mu (aU m c) 0 0) (mu (aU m c) 1 0) (row t r) (fun k => aR m c (ix3 0 k n)) := by
  unfold vr
  refine (r_at _ _ _ _ _ _ _ r n).trans (Finset.sum_congr rfl fun k _ => congrArg₂ (· * ·) (shifted_at m c t _ _ 0 (fun k => by pointwise) (fun k => by pointwise) r k) ?_)
  pointwise [rd_wr]

theorem vk_at (r : Fin 256) (n : Fin 1024) : vk m c t (ix2 r n) =
    projd (hs m c t) (mu (aU m c) 0 2) (mu (aU m c) 1 2) (row t r) (fun k => aK m c (ix3 0 k n)) := by
  unfold vk
  refine (k_at _ _ _ _ _ _ r n).trans (Finset.sum_congr rfl fun k _ => congrArg₂ (· * ·) (shifted_at m c t _ _ 2 (fun k => by pointwise) (fun k => by pointwise) r k) ?_)
  pointwise [rd_wk]

theorem vv_at (r : Fin 256) (n : Fin 1024) : vv m c t (ix2 r n) =
    projd (hs m c t) (mu (aU m c) 0 3) (mu (aU m c) 1 3) (row t r) (fun k => aV m c (ix3 0 k n)) := by
  unfold vv
  refine (v_at _ _ _ _ _ _ r n).trans (Finset.sum_congr rfl fun k _ => congrArg₂ (· * ·) (shifted_at m c t _ _ 3 (fun k => by pointwise) (fun k => by pointwise) r k) ?_)
  pointwise [rd_wv]

theorem lw_lower (r : Fin 256) (l : Fin 64) : lw m c t (ix2 r (lower l)) =
    Ideal.tanh (projd (hs m c t) (mu (aU m c) 0 1) (mu (aU m c) 1 1) (row t r) (fun k => aW1 m c (ix4 0 0 k l))) := by
  unfold lw
  refine (wlow_at _ _ _ _ _ _ r _).trans (congrArg Ideal.tanh (Finset.sum_congr rfl fun k _ => congrArg₂ (· * ·) (shifted_at m c t _ _ 1 (fun k => by pointwise) (fun k => by pointwise) r k) ?_))
  pointwise [rd_w1lo]

theorem lw_upper (r : Fin 256) (l : Fin 64) : lw m c t (ix2 r (upper l)) =
    Ideal.tanh (projd (hs m c t) (mu (aU m c) 0 1) (mu (aU m c) 1 1) (row t r) (fun k => aW1 m c (ix4 0 1 k l))) := by
  unfold lw
  refine (wlow_at _ _ _ _ _ _ r _).trans (congrArg Ideal.tanh (Finset.sum_congr rfl fun k _ => congrArg₂ (· * ·) (shifted_at m c t _ _ 1 (fun k => by pointwise) (fun k => by pointwise) r k) ?_))
  pointwise [rd_w1hi]

theorem la_lower (r : Fin 256) (l : Fin 64) : la m c t (ix2 r (lower l)) =
    projd (hs m c t) (mu (aU m c) 0 4) (mu (aU m c) 1 4) (row t r) (fun k => aA1 m c (ix4 0 0 k l)) := by
  unfold la
  refine (alow_at _ _ _ _ _ _ r _).trans (Finset.sum_congr rfl fun k _ => congrArg₂ (· * ·) (shifted_at m c t _ _ 4 (fun k => by pointwise) (fun k => by pointwise) r k) ?_)
  pointwise [rd_a1lo]

theorem la_upper (r : Fin 256) (l : Fin 64) : la m c t (ix2 r (upper l)) =
    projd (hs m c t) (mu (aU m c) 0 4) (mu (aU m c) 1 4) (row t r) (fun k => aA1 m c (ix4 0 1 k l)) := by
  unfold la
  refine (alow_at _ _ _ _ _ _ r _).trans (Finset.sum_congr rfl fun k _ => congrArg₂ (· * ·) (shifted_at m c t _ _ 4 (fun k => by pointwise) (fun k => by pointwise) r k) ?_)
  pointwise [rd_a1hi]

theorem vd0_at (r : Fin 256) (n : Fin 1024) : vd0 m c t (ix2 r n) = decayed (lifted (aW0 m c (ix3 0 0 n)) (fun l => Ideal.tanh (projd (hs m c t) (mu (aU m c) 0 1) (mu (aU m c) 1 1) (row t r) (fun k => aW1 m c (ix4 0 0 k l)))) (fun l => aW2 m c (ix4 0 0 l n))) := by
  unfold vd0
  refine (decay0_at _ _ _ _ _ _ _ _ r n).trans (congrArg decayed ?_)
  unfold lifted
  refine congrArg₂ (· + ·) ?_ (Finset.sum_congr rfl fun l _ => congrArg₂ (· * ·) (lw_lower m c t r l) ?_)
  · pointwise [rd_w0]
  · pointwise [rd_w2]

theorem vd1_at (r : Fin 256) (n : Fin 1024) : vd1 m c t (ix2 r n) = decayed (lifted (aW0 m c (ix3 0 1 n)) (fun l => Ideal.tanh (projd (hs m c t) (mu (aU m c) 0 1) (mu (aU m c) 1 1) (row t r) (fun k => aW1 m c (ix4 0 1 k l)))) (fun l => aW2 m c (ix4 0 1 l n))) := by
  unfold vd1
  refine (decay1_at _ _ _ r n).trans (congrArg decayed ?_)
  unfold lifted
  refine congrArg₂ (· + ·) ?_ (Finset.sum_congr rfl fun l _ => congrArg₂ (· * ·) (lw_upper m c t r l) ?_)
  · pointwise [rd_w0]
  · pointwise [rd_w2]

theorem va0_at (r : Fin 256) (n : Fin 1024) : va0 m c t (ix2 r n) = logis (lifted (aA0 m c (ix3 0 0 n)) (fun l => projd (hs m c t) (mu (aU m c) 0 4) (mu (aU m c) 1 4) (row t r) (fun k => aA1 m c (ix4 0 0 k l))) (fun l => aA2 m c (ix4 0 0 l n))) := by
  unfold va0
  refine (rate0_at _ _ _ r n).trans (congrArg logis ?_)
  unfold lifted
  refine congrArg₂ (· + ·) ?_ (Finset.sum_congr rfl fun l _ => congrArg₂ (· * ·) (la_lower m c t r l) ?_)
  · pointwise [rd_a0]
  · pointwise [rd_a2]

theorem va1_at (r : Fin 256) (n : Fin 1024) : va1 m c t (ix2 r n) = logis (lifted (aA0 m c (ix3 0 1 n)) (fun l => projd (hs m c t) (mu (aU m c) 0 4) (mu (aU m c) 1 4) (row t r) (fun k => aA1 m c (ix4 0 1 k l))) (fun l => aA2 m c (ix4 0 1 l n))) := by
  unfold va1
  refine (rate1_at _ _ _ r n).trans (congrArg logis ?_)
  unfold lifted
  refine congrArg₂ (· + ·) ?_ (Finset.sum_congr rfl fun l _ => congrArg₂ (· * ·) (la_upper m c t r l) ?_)
  · pointwise [rd_a0]
  · pointwise [rd_a2]

end Cert.ProjIdeal.Tile
-- ==== Proof.ProjValue.lean ====
/- The projections kernel's eight result arrays are the reference's: tiles of 256 tokens, eight strips of lanes each. -/
module

public import proofs.«01_k».proof.Proof.ProjTile
public import Idealize.ShloMosaic.Lib.Claim

@[expose] public section

set_option maxRecDepth 16384

noncomputable section

namespace Cert.ProjIdeal.Final

open Cert.ProjIdeal Cert.ProjIdeal.Gen Idealize.ShloMosaic Idealize.ShloMosaic.TcCoe Idealize.SL.Sem
open Idealize.ShloMosaic.Pipeline (Dat)
open Cert.Spec Cert.ProjIdeal.Part Cert.ProjIdeal.Rows Cert.ProjIdeal.Tile
open Cert.ProjRefIdeal.RefValue (hr mu md tok chan)
open Cert.ProjRefIdeal.Read

variable (m : (ℓ : Loc nD τ sig) → Buf (Elt Ideal) ℓ) (c : Dev nD) (t : Fin cfg0.N)

/-- The row of tiles that row `a` of a grid point's block is. -/
def trow (a : Fin 32) : Fin 256 := ⟨t.val % 8 * 32 + a, by omega⟩

theorem tok_row (a : Fin 32) (u : Fin 64) : tok (trow t a) u = row t ⟨a * 8 + u % 8, by omega⟩ := by
  apply Fin.ext
  unfold tok trow row
  simp only
  omega

/-- The reference's results, from the kernel's own arguments. -/
def ref_r : FVec Ideal S4x256x64x128 .f32 := val_main_v207 (F := Ideal) (aX m c) (aM m c) (aG m c) (aU m c) (aR m c)
def ref_k : FVec Ideal S4x256x64x128 .f32 := val_main_v210 (F := Ideal) (aX m c) (aM m c) (aG m c) (aU m c) (aK m c)
def ref_v : FVec Ideal S4x256x64x128 .f32 := val_main_v213 (F := Ideal) (aX m c) (aM m c) (aG m c) (aU m c) (aV m c)
def ref_d0 : FVec Ideal S4x256x64x128 .f32 := val_main_v216 (F := Ideal) (aX m c) (aM m c) (aG m c) (aU m c) (aW0 m c) (aW1 m c) (aW2 m c)
def ref_d1 : FVec Ideal S4x256x64x128 .f32 := val_main_v219 (F := Ideal) (aX m c) (aM m c) (aG m c) (aU m c) (aW0 m c) (aW1 m c) (aW2 m c)
def ref_a0 : FVec Ideal S4x256x64x128 .f32 := val_main_v222 (F := Ideal) (aX m c) (aM m c) (aG m c) (aU m c) (aA0 m c) (aA1 m c) (aA2 m c)
def ref_a1 : FVec Ideal S4x256x64x128 .f32 := val_main_v225 (F := Ideal) (aX m c) (aM m c) (aG m c) (aU m c) (aA0 m c) (aA1 m c) (aA2 m c)
def ref_g : FVec Ideal S4x2048x128 .f32 := val_main_v132 (F := Ideal) (aX m c) (aM m c) (aG m c) (aU m c) (aG1 m c)

theorem point_r (a : Fin 32) (u : Fin 64) (l : Fin 128) : stored (vr m c t) (ix4 0 a u l) = ref_r m c (ix4 (bat t) (trow t a) u l) := by
  unfold ref_r
  rw [stored_at, vr_at, Cert.ProjRefIdeal.RefValue.r_tiled, Cert.ProjRefIdeal.RefValue.r_at, tok_row]
  rfl

theorem point_k (a : Fin 32) (u : Fin 64) (l : Fin 128) : stored (vk m c t) (ix4 0 a u l) = ref_k m c (ix4 (bat t) (trow t a) u l) := by
  unfold ref_k
  rw [stored_at, vk_at, Cert.ProjRefIdeal.RefValue.k_tiled, Cert.ProjRefIdeal.RefValue.k_at, tok_row]
  rfl

theorem point_v (a : Fin 32) (u : Fin 64) (l : Fin 128) : stored (vv m c t) (ix4 0 a u l) = ref_v m c (ix4 (bat t) (trow t a) u l) := by
  unfold ref_v
  rw [stored_at, vv_at, Cert.ProjRefIdeal.RefValue.v_tiled, Cert.ProjRefIdeal.RefValue.v_at, tok_row]
  rfl

theorem point_d0 (a : Fin 32) (u : Fin 64) (l : Fin 128) : stored (vd0 m c t) (ix4 0 a u l) = ref_d0 m c (ix4 (bat t) (trow t a) u l) := by
  unfold ref_d0
  rw [stored_at, vd0_at, Cert.ProjRefIdeal.RefValue.decay0_tiled, Cert.ProjRefIdeal.RefValue.decay0_at, tok_row]
  rfl

theorem point_d1 (a : Fin 32) (u : Fin 64) (l : Fin 128) : stored (vd1 m c t) (ix4 0 a u l) = ref_d1 m c (ix4 (bat t) (trow t a) u l) := by
  unfold ref_d1
  rw [stored_at, vd1_at, Cert.ProjRefIdeal.RefValue.decay1_tiled, Cert.ProjRefIdeal.RefValue.decay1_at, tok_row]
  rfl

theorem point_a0 (a : Fin 32) (u : Fin 64) (l : Fin 128) : stored (va0 m c t) (ix4 0 a u l) = ref_a0 m c (ix4 (bat t) (trow t a) u l) := by
  unfold ref_a0
  rw [stored_at, va0_at, Cert.ProjRefIdeal.RefValue.rate0_tiled, Cert.ProjRefIdeal.RefValue.rate0_at, tok_row]
  rfl

theorem point_a1 (a : Fin 32) (u : Fin 64) (l : Fin 128) : stored (va1 m c t) (ix4 0 a u l) = ref_a1 m c (ix4 (bat t) (trow t a) u l) := by
  unfold ref_a1
  rw [stored_at, va1_at, Cert.ProjRefIdeal.RefValue.rate1_tiled, Cert.ProjRefIdeal.RefValue.rate1_at, tok_row]
  rfl

theorem point_g (r : Fin 256) (n : Fin 128) : out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 0 r n) = ref_g m c (ix3 (bat t) (row t r) n) := by
  unfold_out out0_23
  rw [View.canon_cons_unit_lit _ _ _ (by decide)]
  refine (g_at (H m c t) (P m c t) (Q m c t) (View.ld (iblk m c 5 t) r0_20) (View.ld (iblk m c 5 t) r0_21) (View.ld (iblk m c 11 t) r0_22) r n).trans ?_
  unfold ref_g
  rw [Cert.ProjRefIdeal.RefValue.g_at]
  refine congrArg logis (Finset.sum_congr rfl fun k _ => congrArg₂ (· * ·) (shifted_at m c t _ _ 5 (fun k => by pointwise) (fun k => by pointwise) r k) ?_)
  pointwise [rd_g1]

theorem final_r : (dats m 0 c).arrAt 16 (cfgs 0).N = ref_r m c := by
  refine (dats m 0 c).arrAt_eq_of_covers 16 _ (by decide +kernel) fun t hf y => ?_
  blk_simp
  rw [after0_16, out_r]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_r m c t y1 y2 y3).trans ?_
  unfold bat trow
  congr 1
  blk_ext [odx t]

theorem final_k : (dats m 0 c).arrAt 17 (cfgs 0).N = ref_k m c := by
  refine (dats m 0 c).arrAt_eq_of_covers 17 _ (by decide +kernel) fun t hf y => ?_
  blk_simp
  rw [after0_17, out_k]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_k m c t y1 y2 y3).trans ?_
  unfold bat trow
  congr 1
  blk_ext [odx t]

theorem final_v : (dats m 0 c).arrAt 18 (cfgs 0).N = ref_v m c := by
  refine (dats m 0 c).arrAt_eq_of_covers 18 _ (by decide +kernel) fun t hf y => ?_
  blk_simp
  rw [after0_18, out_v]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_v m c t y1 y2 y3).trans ?_
  unfold bat trow
  congr 1
  blk_ext [odx t]

theorem final_d0 : (dats m 0 c).arrAt 19 (cfgs 0).N = ref_d0 m c := by
  refine (dats m 0 c).arrAt_eq_of_covers 19 _ (by decide +kernel) fun t hf y => ?_
  blk_simp
  rw [after0_19, out_d0]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_d0 m c t y1 y2 y3).trans ?_
  unfold bat trow
  congr 1
  blk_ext [odx t]

theorem final_d1 : (dats m 0 c).arrAt 20 (cfgs 0).N = ref_d1 m c := by
  refine (dats m 0 c).arrAt_eq_of_covers 20 _ (by decide +kernel) fun t hf y => ?_
  blk_simp
  rw [after0_20, out_d1]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_d1 m c t y1 y2 y3).trans ?_
  unfold bat trow
  congr 1
  blk_ext [odx t]

theorem final_a0 : (dats m 0 c).arrAt 21 (cfgs 0).N = ref_a0 m c := by
  refine (dats m 0 c).arrAt_eq_of_covers 21 _ (by decide +kernel) fun t hf y => ?_
  blk_simp
  rw [after0_21, out_a0]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_a0 m c t y1 y2 y3).trans ?_
  unfold bat trow
  congr 1
  blk_ext [odx t]

theorem final_a1 : (dats m 0 c).arrAt 22 (cfgs 0).N = ref_a1 m c := by
  refine (dats m 0 c).arrAt_eq_of_covers 22 _ (by decide +kernel) fun t hf y => ?_
  blk_simp
  rw [after0_22, out_a1]
  obtain ⟨y0, y1, y2, y3, rfl⟩ : ∃ (y0 : Fin 1) (y1 : Fin 32) (y2 : Fin 64) (y3 : Fin 128), y = ix4 y0 y1 y2 y3 := ⟨y 0, y 1, y 2, y 3, eq_ix4 y⟩
  obtain rfl : y0 = 0 := Subsingleton.elim _ _
  refine (point_a1 m c t y1 y2 y3).trans ?_
  unfold bat trow
  congr 1
  blk_ext [odx t]

theorem final_g : (dats m 0 c).arrAt 23 (cfgs 0).N = ref_g m c := by
  refine (dats m 0 c).arrAt_eq_of_covers 23 _ (by decide +kernel) fun t hf y => ?_
  blk_simp
  rw [after0_23]
  obtain ⟨y0, y1, y2, rfl⟩ : ∃ (y0 : Fin 1) (y1 : Fin 256) (y2 : Fin 128), y = ix3 y0 y1 y2 := ⟨y 0, y 1, y 2, eq_ix3 y⟩
  obtain rfl : y0 = 0 := Subsingleton.elim _ _
  refine (point_g m c t y1 y2).trans ?_
  unfold bat row
  congr 1
  blk_ext [odx t]

end Cert.ProjIdeal.Final
-- ==== Proof.ProjClaim.lean ====
/- The projections' claims. -/
module

public import proofs.«01_k».proof.Defs
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.ProjValue
public import Idealize.ShloMosaic.Lib.Claim
public import Idealize.ShloMosaic.Lib.Quiescent

@[expose] public section

noncomputable section

namespace Cert.Proof

open Idealize.ShloMosaic Idealize.SL.Sem

theorem proj_quiescent : Cert.quiescent_Proj := fun m g _ => Cert.Proj.Gen.frame m g

theorem projIdeal_quiescent : Cert.quiescent_ProjIdeal := fun m g _ => Cert.ProjIdeal.Gen.frame m g

theorem proj_preserves : Cert.preserves_Proj_ProjIdeal := trivial

theorem projRef_quiescent : Cert.quiescent_ProjRefIdeal := fun m g _ =>
  (θ_run Cert.ProjRefIdeal.defs _ _).mono (fun r h => ⟨fun c => (h c).2.2.2.2.2.2.2.2, sem_eq_zero_of_no_sems (by decide) r.2⟩)
    (Cert.ProjRefIdeal.Value.run (F := Ideal) m g)

theorem proj_algebraic : Cert.algebraic_ProjIdeal_ProjRefIdeal := by
  intro m g m' g' _ hagree
  refine ⟨Cert.ProjIdeal.Final.ref_r m, Cert.ProjIdeal.Final.ref_k m, Cert.ProjIdeal.Final.ref_v m, Cert.ProjIdeal.Final.ref_d0 m, Cert.ProjIdeal.Final.ref_d1 m, Cert.ProjIdeal.Final.ref_a0 m, Cert.ProjIdeal.Final.ref_a1 m, Cert.ProjIdeal.Final.ref_g m, ?_, ?_⟩
  · refine (θ_run _ _ _).mono (fun r h c => ?_) (Cert.ProjIdeal.Value.run_blocks m g)
    obtain ⟨e0, e1, e2, e3, e4, e5, e6, e7, rest⟩ := h c
    exact ⟨e0.trans (Cert.ProjIdeal.Final.final_r m c), e1.trans (Cert.ProjIdeal.Final.final_k m c), e2.trans (Cert.ProjIdeal.Final.final_v m c), e3.trans (Cert.ProjIdeal.Final.final_d0 m c), e4.trans (Cert.ProjIdeal.Final.final_d1 m c), e5.trans (Cert.ProjIdeal.Final.final_a0 m c), e6.trans (Cert.ProjIdeal.Final.final_a1 m c), e7.trans (Cert.ProjIdeal.Final.final_g m c), rest⟩
  · refine (θ_run _ _ _).mono (fun r h c => ?_) (Cert.ProjRefIdeal.Value.run m' g')
    obtain ⟨e0, e1, e2, e3, e4, e5, e6, e7, rest⟩ := h c
    obtain ⟨h0, h1, h2, h3, h4, h5, h6, h7, h8, h9, h10, h11, h12, h13⟩ := hagree c
    refine ⟨e0.trans ?_, e1.trans ?_, e2.trans ?_, e3.trans ?_, e4.trans ?_, e5.trans ?_, e6.trans ?_, e7.trans ?_, rest⟩
    · refine (Cert.ProjRefIdeal.Read.val_main_v207_eq (Idealize.ShloMosaic.StableHlo.launchContents m' c)).trans ?_
      unfold Cert.ProjIdeal.Final.ref_r Cert.ProjIdeal.Rows.aX Cert.ProjIdeal.Rows.aM Cert.ProjIdeal.Rows.aG Cert.ProjIdeal.Rows.aU Cert.ProjIdeal.Rows.aR
      rw [← h0, ← h1, ← h2, ← h3, ← h4]
    · refine (Cert.ProjRefIdeal.Read.val_main_v210_eq (Idealize.ShloMosaic.StableHlo.launchContents m' c)).trans ?_
      unfold Cert.ProjIdeal.Final.ref_k Cert.ProjIdeal.Rows.aX Cert.ProjIdeal.Rows.aM Cert.ProjIdeal.Rows.aG Cert.ProjIdeal.Rows.aU Cert.ProjIdeal.Rows.aK
      rw [← h0, ← h1, ← h2, ← h3, ← h5]
    · refine (Cert.ProjRefIdeal.Read.val_main_v213_eq (Idealize.ShloMosaic.StableHlo.launchContents m' c)).trans ?_
      unfold Cert.ProjIdeal.Final.ref_v Cert.ProjIdeal.Rows.aX Cert.ProjIdeal.Rows.aM Cert.ProjIdeal.Rows.aG Cert.ProjIdeal.Rows.aU Cert.ProjIdeal.Rows.aV
      rw [← h0, ← h1, ← h2, ← h3, ← h6]
    · refine (Cert.ProjRefIdeal.Read.val_main_v216_eq (Idealize.ShloMosaic.StableHlo.launchContents m' c)).trans ?_
      unfold Cert.ProjIdeal.Final.ref_d0 Cert.ProjIdeal.Rows.aX Cert.ProjIdeal.Rows.aM Cert.ProjIdeal.Rows.aG Cert.ProjIdeal.Rows.aU Cert.ProjIdeal.Rows.aW0 Cert.ProjIdeal.Rows.aW1 Cert.ProjIdeal.Rows.aW2
      rw [← h0, ← h1, ← h2, ← h3, ← h7, ← h8, ← h9]
    · refine (Cert.ProjRefIdeal.Read.val_main_v219_eq (Idealize.ShloMosaic.StableHlo.launchContents m' c)).trans ?_
      unfold Cert.ProjIdeal.Final.ref_d1 Cert.ProjIdeal.Rows.aX Cert.ProjIdeal.Rows.aM Cert.ProjIdeal.Rows.aG Cert.ProjIdeal.Rows.aU Cert.ProjIdeal.Rows.aW0 Cert.ProjIdeal.Rows.aW1 Cert.ProjIdeal.Rows.aW2
      rw [← h0, ← h1, ← h2, ← h3, ← h7, ← h8, ← h9]
    · refine (Cert.ProjRefIdeal.Read.val_main_v222_eq (Idealize.ShloMosaic.StableHlo.launchContents m' c)).trans ?_
      unfold Cert.ProjIdeal.Final.ref_a0 Cert.ProjIdeal.Rows.aX Cert.ProjIdeal.Rows.aM Cert.ProjIdeal.Rows.aG Cert.ProjIdeal.Rows.aU Cert.ProjIdeal.Rows.aA0 Cert.ProjIdeal.Rows.aA1 Cert.ProjIdeal.Rows.aA2
      rw [← h0, ← h1, ← h2, ← h3, ← h10, ← h11, ← h12]
    · refine (Cert.ProjRefIdeal.Read.val_main_v225_eq (Idealize.ShloMosaic.StableHlo.launchContents m' c)).trans ?_
      unfold Cert.ProjIdeal.Final.ref_a1 Cert.ProjIdeal.Rows.aX Cert.ProjIdeal.Rows.aM Cert.ProjIdeal.Rows.aG Cert.ProjIdeal.Rows.aU Cert.ProjIdeal.Rows.aA0 Cert.ProjIdeal.Rows.aA1 Cert.ProjIdeal.Rows.aA2
      rw [← h0, ← h1, ← h2, ← h3, ← h10, ← h11, ← h12]
    · refine (Cert.ProjRefIdeal.Read.val_main_v132_eq (Idealize.ShloMosaic.StableHlo.launchContents m' c)).trans ?_
      unfold Cert.ProjIdeal.Final.ref_g Cert.ProjIdeal.Rows.aX Cert.ProjIdeal.Rows.aM Cert.ProjIdeal.Rows.aG Cert.ProjIdeal.Rows.aU Cert.ProjIdeal.Rows.aG1
      rw [← h0, ← h1, ← h2, ← h3, ← h13]

end Cert.Proof

end
-- ==== Proof.lean ====
/- The claim: each call with its frames, its idealization and its reference. -/
module

public import proofs.«01_k».proof.Defs
public import proofs.«01_k».proof.Proof.SguClaim
public import proofs.«01_k».proof.Proof.FfnClaim
public import proofs.«01_k».proof.Proof.FfpClaim
public import proofs.«01_k».proof.Proof.OutClaim
public import proofs.«01_k».proof.Proof.ProjClaim

@[expose] public section

noncomputable section

namespace Cert.Proof

open Idealize.ShloMosaic Idealize.SL.Sem Cert.Sgu

theorem claim : Cert.Claim := ⟨Cert.Sgu.Gen.facts, Cert.SguIdeal.Gen.facts, Cert.SguRefIdeal.Gen.facts,
  Cert.Ffn.Gen.facts, Cert.FfnIdeal.Gen.facts, Cert.FfnRefIdeal.Gen.facts,
  Cert.Ffp.Gen.facts, Cert.FfpIdeal.Gen.facts, Cert.FfpRefIdeal.Gen.facts,
  Cert.Out.Gen.facts, Cert.OutIdeal.Gen.facts, Cert.OutRefIdeal.Gen.facts,
  Cert.Proj.Gen.facts, Cert.ProjIdeal.Gen.facts, Cert.ProjRefIdeal.Gen.facts,
  sgu_quiescent, sguIdeal_quiescent, sguRef_quiescent,
  ffn_quiescent, ffnIdeal_quiescent, ffnRef_quiescent,
  ffp_quiescent, ffpIdeal_quiescent, ffpRef_quiescent,
  out_quiescent, outIdeal_quiescent, outRef_quiescent,
  proj_quiescent, projIdeal_quiescent, projRef_quiescent,
  sgu_preserves, sgu_algebraic, ffn_preserves, ffn_algebraic, ffp_preserves, ffp_algebraic, out_preserves, out_algebraic,
  proj_preserves, proj_algebraic⟩

end Cert.Proof

end
